-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usage_above_floor [hPre_usage_above_floor : Cert.Pre_usage_above_floor.Facts] (m : (ℓ : Loc Cert.KernelIdeal.nD Cert.KernelIdeal.τ Cert.KernelIdeal.sig) → Buf (Elt Ideal) ℓ) : Prop :=
  ∀ c : Dev Cert.KernelIdeal.nD,
    (Cert.Pre_usage_above_floor.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usage_above_floor [hPre_usage_above_floor : Cert.Pre_usage_above_floor.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usage_above_floor.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_usage_above_floor [hKernelIdeal : Cert.KernelIdeal.Facts] [hPre_usage_above_floor : Cert.Pre_usage_above_floor.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usage_above_floor m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_usage_above_floor [hReferenceIdeal : Cert.ReferenceIdeal.Facts] [hPre_usage_above_floor : Cert.Pre_usage_above_floor.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usage_above_floor m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_usage_above_floor [hKernelIdeal : Cert.KernelIdeal.Facts] [hReferenceIdeal : Cert.ReferenceIdeal.Facts] [hPre_usage_above_floor : Cert.Pre_usage_above_floor.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usage_above_floor m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)) (v6 : (c : Dev Cert.KernelIdeal.nD) → Buf (Elt Ideal) ((c.tc : Thread Cert.KernelIdeal.nD Cert.KernelIdeal.τ).loc Cert.KernelIdeal.main_v6_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_v6_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v268) = v0 c
          ∧ r.2.mem ((c.tc : Thread Cert.ReferenceIdeal.nD Cert.ReferenceIdeal.τ).loc Cert.ReferenceIdeal.main_v179) = v1 c
          ∧ r.2.mem ((c.tc : Thread Cert.ReferenceIdeal.nD Cert.ReferenceIdeal.τ).loc Cert.ReferenceIdeal.main_v267) = v2 c
          ∧ r.2.mem ((c.tc : Thread Cert.ReferenceIdeal.nD Cert.ReferenceIdeal.τ).loc Cert.ReferenceIdeal.main_v269) = v3 c
          ∧ r.2.mem ((c.tc : Thread Cert.ReferenceIdeal.nD Cert.ReferenceIdeal.τ).loc Cert.ReferenceIdeal.main_v270) = v4 c
          ∧ r.2.mem ((c.tc : Thread Cert.ReferenceIdeal.nD Cert.ReferenceIdeal.τ).loc Cert.ReferenceIdeal.main_v271) = v5 c
          ∧ r.2.mem ((c.tc : Thread Cert.ReferenceIdeal.nD Cert.ReferenceIdeal.τ).loc Cert.ReferenceIdeal.main_v204) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_usage_above_floor : Cert.Pre_usage_above_floor.Facts),
    quiescent_Kernel (hKernel := hKernel)
    ∧ quiescent_KernelIdeal (hKernelIdeal := hKernelIdeal)
    ∧ quiescent_KernelIdeal_pre_usage_above_floor (hKernelIdeal := hKernelIdeal) (hPre_usage_above_floor := hPre_usage_above_floor)
    ∧ quiescent_ReferenceIdeal (hReferenceIdeal := hReferenceIdeal)
    ∧ quiescent_ReferenceIdeal_pre_usage_above_floor (hReferenceIdeal := hReferenceIdeal) (hPre_usage_above_floor := hPre_usage_above_floor)
    ∧ preserves_Kernel_KernelIdeal
    ∧ algebraic_KernelIdeal_ReferenceIdeal_pre_usage_above_floor (hKernelIdeal := hKernelIdeal) (hReferenceIdeal := hReferenceIdeal) (hPre_usage_above_floor := hPre_usage_above_floor)
-- ==== Pre_usage_above_floor.lean ====
abbrev S16x2048 : Shape := ⟨2, ![16, 2048]⟩
abbrev S16x1024x64 : Shape := ⟨3, ![16, 1024, 64]⟩
abbrev S16x4x1024 : Shape := ⟨3, ![16, 4, 1024]⟩
abbrev S16x1024 : Shape := ⟨2, ![16, 1024]⟩
abbrev S16x1024x1024 : Shape := ⟨3, ![16, 1024, 1024]⟩
abbrev S471x2048 : Shape := ⟨2, ![471, 2048]⟩
abbrev S471 : Shape := ⟨1, ![471]⟩
abbrev S2048x471 : Shape := ⟨2, ![2048, 471]⟩
abbrev S16x471 : Shape := ⟨2, ![16, 471]⟩
abbrev S1x471 : Shape := ⟨2, ![1, 471]⟩
abbrev S16x4 : Shape := ⟨2, ![16, 4]⟩
abbrev S_ : Shape := ⟨0, ![]⟩
abbrev S16x4x1 : Shape := ⟨3, ![16, 4, 1]⟩
abbrev S16x1x1024 : Shape := ⟨3, ![16, 1, 1024]⟩

class Facts : Prop where
  transposes_S471x2048_S2048x471_1_0 : S471x2048.Transposes [1, 0] S2048x471
  bcast_S471_S1x471_1 : S471.BroadcastsInDim S1x471 (![1] : Fin 1 → Fin S1x471.rank)
  bcast_S1x471_S16x471_0_1 : S1x471.BroadcastsInDim S16x471 (![0, 1] : Fin 2 → Fin S16x471.rank)
  slices_S16x471_S16x4_0_453 : S16x471.Slices ![0, 453] S16x4
  bcast_S_S16x4 : S_.BroadcastsInDim S16x4 (![] : Fin 0 → Fin S16x4.rank)
  bcast_S16x4_S16x4x1_0_1 : S16x4.BroadcastsInDim S16x4x1 (![0, 1] : Fin 2 → Fin S16x4x1.rank)
  bcast_S16x4x1_S16x4x1024_0_1_2 : S16x4x1.BroadcastsInDim S16x4x1024 (![0, 1, 2] : Fin 3 → Fin S16x4x1024.rank)
  bcast_S_S16x4x1024 : S_.BroadcastsInDim S16x4x1024 (![] : Fin 0 → Fin S16x4x1024.rank)
  slices_S16x4x1024_S16x1x1024_0_0_0 : S16x4x1024.Slices ![0, 0, 0] S16x1x1024
  shapeCasts_S16x1x1024_S16x1024 : S16x1x1024.ShapeCasts S16x1024
  slices_S16x4x1024_S16x1x1024_0_1_0 : S16x4x1024.Slices ![0, 1, 0] S16x1x1024
  slices_S16x4x1024_S16x1x1024_0_2_0 : S16x4x1024.Slices ![0, 2, 0] S16x1x1024
  slices_S16x4x1024_S16x1x1024_0_3_0 : S16x4x1024.Slices ![0, 3, 0] S16x1x1024
  bcast_S_S16x1024 : S_.BroadcastsInDim S16x1024 (![] : Fin 0 → Fin S16x1024.rank)
  dot_S16x2048_S2048x471_S16x471_1_0_0_1_n_n_wf : DotDims.WF S16x2048 S2048x471 S16x471 [1] [0] [0] [1] [] []

variable [Facts]

def dot_S16x2048_S2048x471_S16x471_1_0_0_1_n_n : DotDims S16x2048 S2048x471 S16x471 where
  lhsContracting := [1]
  rhsContracting := [0]
  lhsNonContracting := [0]
  rhsNonContracting := [1]
  lhsBatch := []
  rhsBatch := []
  wf := dot_S16x2048_S2048x471_S16x471_1_0_0_1_n_n_wf
def fn_part1 {F : FTy → Type} [FloatOps F] (main_arg3 : FVec F S16x1024 .f32) (main_arg4 : FVec F S16x1024 .f32) (main_v16 : FVec F S16x4x1024 .f32) (main_v18 : FVec F S16x1024 .f32) (main_v20 : FVec F S16x1024 .f32) : IVec S16x1024 1 :=
  let main_v21 : FVec F S16x1024 .f32 := mulf main_v18 main_v20
  let main_v22 : FVec F S16x1x1024 .f32 := (extractStridedSlice S16x1x1024 ![0, 2, 0] · slices_S16x4x1024_S16x1x1024_0_2_0) main_v16
  let main_v23 : FVec F S16x1024 .f32 := shapeCast S16x1024 main_v22 shapeCasts_S16x1x1024_S16x1024
  let main_v24 : FVec F S16x1024 .f32 := mulf main_v21 main_v23
  let main_v25 : FVec F S16x1x1024 .f32 := (extractStridedSlice S16x1x1024 ![0, 3, 0] · slices_S16x4x1024_S16x1x1024_0_3_0) main_v16
  let main_v26 : FVec F S16x1024 .f32 := shapeCast S16x1024 main_v25 shapeCasts_S16x1x1024_S16x1024
  let main_v27 : FVec F S16x1024 .f32 := mulf main_v24 main_v26
  let main_v28 : FVec F S16x1024 .f32 := addf main_arg4 main_arg3
  let main_v29 : FVec F S16x1024 .f32 := mulf main_arg4 main_arg3
  let main_v30 : FVec F S16x1024 .f32 := subf main_v28 main_v29
  let main_v31 : FVec F S16x1024 .f32 := mulf main_v30 main_v27
  let main_cst_2 : FVec F S_ .f32 := constant S_ .f32 0x0DA24260#32
  let main_v32 : FVec F S16x1024 .f32 := broadcastInDim S16x1024 ![] bcast_S_S16x1024 main_cst_2
  let main_v33 : IVec S16x1024 1 := cmpf .oge main_v31 main_v32
  main_v33

def fn {F : FTy → Type} [FloatOps F] (main_arg0 : FVec F S16x2048 .f32) (main_arg1 : FVec F S16x1024x64 .f32) (main_arg2 : FVec F S16x4x1024 .f32) (main_arg3 : FVec F S16x1024 .f32) (main_arg4 : FVec F S16x1024 .f32) (main_arg5 : FVec F S16x1024 .f32) (main_arg6 : FVec F S16x1024x1024 .f32) (main_arg7 : FVec F S471x2048 .f32) (main_arg8 : FVec F S471 .f32) : IVec S16x1024 1 :=
  let main_v0 : FVec F S2048x471 .f32 := (transpose S2048x471 [1, 0] · transposes_S471x2048_S2048x471_1_0) main_arg7
  let main_v1 : FVec F S16x471 .f32 := (fun l r => Host.dotGeneral dot_S16x2048_S2048x471_S16x471_1_0_0_1_n_n none l r) main_arg0 main_v0
  let main_v2 : FVec F S1x471 .f32 := broadcastInDim S1x471 ![1] bcast_S471_S1x471_1 main_arg8
  let main_v3 : FVec F S16x471 .f32 := broadcastInDim S16x471 ![0, 1] bcast_S1x471_S16x471_0_1 main_v2
  let main_v4 : FVec F S16x471 .f32 := addf main_v1 main_v3
  let main_v5 : FVec F S16x4 .f32 := (extractStridedSlice S16x4 ![0, 453] · slices_S16x471_S16x4_0_453) main_v4
  let main_v6 : FVec F S16x4 .f32 := Host.negf main_v5
  let main_v7 : FVec F S16x4 .f32 := Host.exp main_v6
  let main_cst : FVec F S_ .f32 := constant S_ .f32 0x3F800000#32
  let main_v8 : FVec F S16x4 .f32 := broadcastInDim S16x4 ![] bcast_S_S16x4 main_cst
  let main_v9 : FVec F S16x4 .f32 := addf main_v8 main_v7
  let main_cst_0 : FVec F S_ .f32 := constant S_ .f32 0x3F800000#32
  let main_v10 : FVec F S16x4 .f32 := broadcastInDim S16x4 ![] bcast_S_S16x4 main_cst_0
  let main_v11 : FVec F S16x4 .f32 := Host.divf main_v10 main_v9
  let main_v12 : FVec F S16x4x1 .f32 := broadcastInDim S16x4x1 ![0, 1] bcast_S16x4_S16x4x1_0_1 main_v11
  let main_v13 : FVec F S16x4x1024 .f32 := broadcastInDim S16x4x1024 ![0, 1, 2] bcast_S16x4x1_S16x4x1024_0_1_2 main_v12
  let main_v14 : FVec F S16x4x1024 .f32 := mulf main_v13 main_arg2
  let main_cst_1 : FVec F S_ .f32 := constant S_ .f32 0x3F800000#32
  let main_v15 : FVec F S16x4x1024 .f32 := broadcastInDim S16x4x1024 ![] bcast_S_S16x4x1024 main_cst_1
  let main_v16 : FVec F S16x4x1024 .f32 := subf main_v15 main_v14
  let main_v17 : FVec F S16x1x1024 .f32 := (extractStridedSlice S16x1x1024 ![0, 0, 0] · slices_S16x4x1024_S16x1x1024_0_0_0) main_v16
  let main_v18 : FVec F S16x1024 .f32 := shapeCast S16x1024 main_v17 shapeCasts_S16x1x1024_S16x1024
  let main_v19 : FVec F S16x1x1024 .f32 := (extractStridedSlice S16x1x1024 ![0, 1, 0] · slices_S16x4x1024_S16x1x1024_0_1_0) main_v16
  let main_v20 : FVec F S16x1024 .f32 := shapeCast S16x1024 main_v19 shapeCasts_S16x1x1024_S16x1024
  fn_part1 (F := F) main_arg3 main_arg4 main_v16 main_v18 main_v20
-- ==== Kernel.lean ====
abbrev S16x2048 : Shape := ⟨2, ![16, 2048]⟩
abbrev S16x1024x64 : Shape := ⟨3, ![16, 1024, 64]⟩
abbrev S16x4x1024 : Shape := ⟨3, ![16, 4, 1024]⟩
abbrev S16x1024 : Shape := ⟨2, ![16, 1024]⟩
abbrev S16x1024x1024 : Shape := ⟨3, ![16, 1024, 1024]⟩
abbrev S471x2048 : Shape := ⟨2, ![471, 2048]⟩
abbrev S471 : Shape := ⟨1, ![471]⟩
abbrev S1x471 : Shape := ⟨2, ![1, 471]⟩
abbrev S16x1x1024 : Shape := ⟨3, ![16, 1, 1024]⟩
abbrev S_ : Shape := ⟨0, ![]⟩
abbrev S1024x1024 : Shape := ⟨2, ![1024, 1024]⟩
abbrev S16x4x64 : Shape := ⟨3, ![16, 4, 64]⟩
abbrev S2x1024x64 : Shape := ⟨3, ![2, 1024, 64]⟩
abbrev S2x4x1024 : Shape := ⟨3, ![2, 4, 1024]⟩
abbrev S2x1x1024 : Shape := ⟨3, ![2, 1, 1024]⟩
abbrev S2x1024x1024 : Shape := ⟨3, ![2, 1024, 1024]⟩
abbrev S2x4x64 : Shape := ⟨3, ![2, 4, 64]⟩
abbrev S1x2048 : Shape := ⟨2, ![1, 2048]⟩
abbrev S1x1024x64 : Shape := ⟨3, ![1, 1024, 64]⟩
abbrev S1024x64 : Shape := ⟨2, ![1024, 64]⟩
abbrev S1x1x1024 : Shape := ⟨3, ![1, 1, 1024]⟩
abbrev S1x1024 : Shape := ⟨2, ![1, 1024]⟩
abbrev S1x1 : Shape := ⟨2, ![1, 1]⟩
abbrev S1024x1 : Shape := ⟨2, ![1024, 1]⟩
abbrev S1x64 : Shape := ⟨2, ![1, 64]⟩
abbrev S1 : Shape := ⟨1, ![1]⟩
abbrev S1x1024x1024 : Shape := ⟨3, ![1, 1024, 1024]⟩
abbrev S1x4x1024 : Shape := ⟨3, ![1, 4, 1024]⟩
abbrev S4x1024 : Shape := ⟨2, ![4, 1024]⟩
abbrev S4x64 : Shape := ⟨2, ![4, 64]⟩
abbrev S4 : Shape := ⟨1, ![4]⟩
abbrev S4x1 : Shape := ⟨2, ![4, 1]⟩
abbrev S1x4 : Shape := ⟨2, ![1, 4]⟩
abbrev S1x3 : Shape := ⟨2, ![1, 3]⟩
abbrev S4x3 : Shape := ⟨2, ![4, 3]⟩
abbrev S1x4x64 : Shape := ⟨3, ![1, 4, 64]⟩

abbrev nBuf : Space → Nat
  | .hbm => 31
  | .vmem => 30
  | .smem => 0
  | _ => 0

abbrev bufTy : (tb : Table) → Fin (tcTables nBuf tb) → BufTy
  | .hbm, ⟨0, _⟩ => ⟨S16x2048, .f32⟩
  | .hbm, ⟨1, _⟩ => ⟨S16x1024x64, .f32⟩
  | .hbm, ⟨2, _⟩ => ⟨S16x4x1024, .f32⟩
  | .hbm, ⟨3, _⟩ => ⟨S16x1024, .f32⟩
  | .hbm, ⟨4, _⟩ => ⟨S16x1024, .f32⟩
  | .hbm, ⟨5, _⟩ => ⟨S16x1024, .f32⟩
  | .hbm, ⟨6, _⟩ => ⟨S16x1024x1024, .f32⟩
  | .hbm, ⟨7, _⟩ => ⟨S471x2048, .f32⟩
  | .hbm, ⟨8, _⟩ => ⟨S471, .f32⟩
  | .hbm, ⟨9, _⟩ => ⟨S1x471, .f32⟩
  | .hbm, ⟨10, _⟩ => ⟨S16x1x1024, .f32⟩
  | .hbm, ⟨11, _⟩ => ⟨S16x1x1024, .f32⟩
  | .hbm, ⟨12, _⟩ => ⟨S16x1x1024, .f32⟩
  | .hbm, ⟨13, _⟩ => ⟨S_, .f32⟩
  | .hbm, ⟨14, _⟩ => ⟨S1024x1024, .f32⟩
  | .hbm, ⟨15, _⟩ => ⟨S1024x1024, .i32⟩
  | .hbm, ⟨16, _⟩ => ⟨S_, .i32⟩
  | .hbm, ⟨17, _⟩ => ⟨S1024x1024, .i32⟩
  | .hbm, ⟨18, _⟩ => ⟨S1024x1024, .i32⟩
  | .hbm, ⟨19, _⟩ => ⟨S1024x1024, .i32⟩
  | .hbm, ⟨20, _⟩ => ⟨S1024x1024, .i1⟩
  | .hbm, ⟨21, _⟩ => ⟨S_, .f32⟩
  | .hbm, ⟨22, _⟩ => ⟨S1024x1024, .f32⟩
  | .hbm, ⟨23, _⟩ => ⟨S1024x1024, .f32⟩
  | .hbm, ⟨24, _⟩ => ⟨S16x4x64, .f32⟩
  | .hbm, ⟨25, _⟩ => ⟨S16x1024x64, .f32⟩
  | .hbm, ⟨26, _⟩ => ⟨S16x4x1024, .f32⟩
  | .hbm, ⟨27, _⟩ => ⟨S16x1x1024, .f32⟩
  | .hbm, ⟨28, _⟩ => ⟨S16x1x1024, .f32⟩
  | .hbm, ⟨29, _⟩ => ⟨S16x1x1024, .f32⟩
  | .hbm, ⟨30, _⟩ => ⟨S16x1024x1024, .f32⟩
  | .local _ .vmem, ⟨0, _⟩ => ⟨S16x2048, .f32⟩
  | .local _ .vmem, ⟨1, _⟩ => ⟨S471x2048, .f32⟩
  | .local _ .vmem, ⟨2, _⟩ => ⟨S1x471, .f32⟩
  | .local _ .vmem, ⟨3, _⟩ => ⟨S2x1024x64, .f32⟩
  | .local _ .vmem, ⟨4, _⟩ => ⟨S2x1024x64, .f32⟩
  | .local _ .vmem, ⟨5, _⟩ => ⟨S2x4x1024, .f32⟩
  | .local _ .vmem, ⟨6, _⟩ => ⟨S2x4x1024, .f32⟩
  | .local _ .vmem, ⟨7, _⟩ => ⟨S2x1x1024, .f32⟩
  | .local _ .vmem, ⟨8, _⟩ => ⟨S2x1x1024, .f32⟩
  | .local _ .vmem, ⟨9, _⟩ => ⟨S2x1x1024, .f32⟩
  | .local _ .vmem, ⟨10, _⟩ => ⟨S2x1x1024, .f32⟩
  | .local _ .vmem, ⟨11, _⟩ => ⟨S2x1x1024, .f32⟩
  | .local _ .vmem, ⟨12, _⟩ => ⟨S2x1x1024, .f32⟩
  | .local _ .vmem, ⟨13, _⟩ => ⟨S1024x1024, .f32⟩
  | .local _ .vmem, ⟨14, _⟩ => ⟨S2x1024x1024, .f32⟩
  | .local _ .vmem, ⟨15, _⟩ => ⟨S2x1024x1024, .f32⟩
  | .local _ .vmem, ⟨16, _⟩ => ⟨S2x4x64, .f32⟩
  | .local _ .vmem, ⟨17, _⟩ => ⟨S2x4x64, .f32⟩
  | .local _ .vmem, ⟨18, _⟩ => ⟨S2x1024x64, .f32⟩
  | .local _ .vmem, ⟨19, _⟩ => ⟨S2x1024x64, .f32⟩
  | .local _ .vmem, ⟨20, _⟩ => ⟨S2x4x1024, .f32⟩
  | .local _ .vmem, ⟨21, _⟩ => ⟨S2x4x1024, .f32⟩
  | .local _ .vmem, ⟨22, _⟩ => ⟨S2x1x1024, .f32⟩
  | .local _ .vmem, ⟨23, _⟩ => ⟨S2x1x1024, .f32⟩
  | .local _ .vmem, ⟨24, _⟩ => ⟨S2x1x1024, .f32⟩
  | .local _ .vmem, ⟨25, _⟩ => ⟨S2x1x1024, .f32⟩
  | .local _ .vmem, ⟨26, _⟩ => ⟨S2x1x1024, .f32⟩
  | .local _ .vmem, ⟨27, _⟩ => ⟨S2x1x1024, .f32⟩
  | .local _ .vmem, ⟨28, _⟩ => ⟨S2x1024x1024, .f32⟩
  | .local _ .vmem, ⟨29, _⟩ => ⟨S2x1024x1024, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v5 : Ref sig .tc := ⟨.hbm, 23, rfl⟩
abbrev main_v6_0 : Ref sig .tc := ⟨.hbm, 24, rfl⟩
abbrev main_v6_1 : Ref sig .tc := ⟨.hbm, 25, rfl⟩
abbrev main_v6_2 : Ref sig .tc := ⟨.hbm, 26, rfl⟩
abbrev main_v6_3 : Ref sig .tc := ⟨.hbm, 27, rfl⟩
abbrev main_v6_4 : Ref sig .tc := ⟨.hbm, 28, rfl⟩
abbrev main_v6_5 : Ref sig .tc := ⟨.hbm, 29, rfl⟩
abbrev main_v6_6 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  let c0 : Index := 0#32
  ![v2.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S471x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x471 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1024x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x4x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x4x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2x1024x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S2x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S16x2048 : Shape := ⟨2, ![16, 2048]⟩
abbrev S16x1024x64 : Shape := ⟨3, ![16, 1024, 64]⟩
abbrev S16x4x1024 : Shape := ⟨3, ![16, 4, 1024]⟩
abbrev S16x1024 : Shape := ⟨2, ![16, 1024]⟩
abbrev S16x1024x1024 : Shape := ⟨3, ![16, 1024, 1024]⟩
abbrev S471x2048 : Shape := ⟨2, ![471, 2048]⟩
abbrev S471 : Shape := ⟨1, ![471]⟩
abbrev S2048x471 : Shape := ⟨2, ![2048, 471]⟩
abbrev S16x471 : Shape := ⟨2, ![16, 471]⟩
abbrev S1x471 : Shape := ⟨2, ![1, 471]⟩
abbrev S16x256 : Shape := ⟨2, ![16, 256]⟩
abbrev S16x4x64 : Shape := ⟨3, ![16, 4, 64]⟩
abbrev S16x4 : Shape := ⟨2, ![16, 4]⟩
abbrev S16x64 : Shape := ⟨2, ![16, 64]⟩
abbrev S16x1x64 : Shape := ⟨3, ![16, 1, 64]⟩
abbrev S16x1 : Shape := ⟨2, ![16, 1]⟩
abbrev S16x12 : Shape := ⟨2, ![16, 12]⟩
abbrev S16x4x3 : Shape := ⟨3, ![16, 4, 3]⟩
abbrev S_ : Shape := ⟨0, ![]⟩
abbrev S16x4x1 : Shape := ⟨3, ![16, 4, 1]⟩
abbrev S16x1x1024 : Shape := ⟨3, ![16, 1, 1024]⟩
abbrev S16x1024x1 : Shape := ⟨3, ![16, 1024, 1]⟩
abbrev S1 : Shape := ⟨1, ![1]⟩
abbrev S1x1x1 : Shape := ⟨3, ![1, 1, 1]⟩
abbrev S16x1023 : Shape := ⟨2, ![16, 1023]⟩
abbrev S16x2 : Shape := ⟨2, ![16, 2]⟩
abbrev S16x1022 : Shape := ⟨2, ![16, 1022]⟩
abbrev S16x1020 : Shape := ⟨2, ![16, 1020]⟩
abbrev S16x8 : Shape := ⟨2, ![16, 8]⟩
abbrev S16x1016 : Shape := ⟨2, ![16, 1016]⟩
abbrev S16x16 : Shape := ⟨2, ![16, 16]⟩
abbrev S16x1008 : Shape := ⟨2, ![16, 1008]⟩
abbrev S16x32 : Shape := ⟨2, ![16, 32]⟩
abbrev S16x992 : Shape := ⟨2, ![16, 992]⟩
abbrev S16x960 : Shape := ⟨2, ![16, 960]⟩
abbrev S16x128 : Shape := ⟨2, ![16, 128]⟩
abbrev S16x896 : Shape := ⟨2, ![16, 896]⟩
abbrev S16x768 : Shape := ⟨2, ![16, 768]⟩
abbrev S16x512 : Shape := ⟨2, ![16, 512]⟩
abbrev S16 : Shape := ⟨1, ![16]⟩
abbrev S16x1024x2 : Shape := ⟨3, ![16, 1024, 2]⟩
abbrev S16x1x1 : Shape := ⟨3, ![16, 1, 1]⟩
abbrev S1024x1024 : Shape := ⟨2, ![1024, 1024]⟩
abbrev S1x1024x1024 : Shape := ⟨3, ![1, 1024, 1024]⟩

abbrev nBuf : Space → Nat
  | .hbm => 379
  | .vmem => 0
  | .smem => 0
  | _ => 0

abbrev hbmTy0_0 (i : Nat) : BufTy := match i % 128 with
  | 0 => ⟨S16x2048, .f32⟩
  | 1 => ⟨S16x1024x64, .f32⟩
  | 2 => ⟨S16x4x1024, .f32⟩
  | 3 => ⟨S16x1024, .f32⟩
  | 4 => ⟨S16x1024, .f32⟩
  | 5 => ⟨S16x1024, .f32⟩
  | 6 => ⟨S16x1024x1024, .f32⟩
  | 7 => ⟨S471x2048, .f32⟩
  | 8 => ⟨S471, .f32⟩
  | 9 => ⟨S2048x471, .f32⟩
  | 10 => ⟨S16x471, .f32⟩
  | 11 => ⟨S1x471, .f32⟩
  | 12 => ⟨S16x471, .f32⟩
  | 13 => ⟨S16x471, .f32⟩
  | 14 => ⟨S16x256, .f32⟩
  | 15 => ⟨S16x4x64, .f32⟩
  | 16 => ⟨S16x4, .f32⟩
  | 17 => ⟨S16x64, .f32⟩
  | 18 => ⟨S16x1x64, .f32⟩
  | 19 => ⟨S16x1, .f32⟩
  | 20 => ⟨S16x64, .f32⟩
  | 21 => ⟨S16x64, .f32⟩
  | 22 => ⟨S16x1, .f32⟩
  | 23 => ⟨S16x1, .f32⟩
  | 24 => ⟨S16x12, .f32⟩
  | 25 => ⟨S16x4x3, .f32⟩
  | 26 => ⟨S16x4, .f32⟩
  | 27 => ⟨S16x4, .f32⟩
  | 28 => ⟨S16x4, .f32⟩
  | 29 => ⟨S_, .f32⟩
  | 30 => ⟨S16x4, .f32⟩
  | 31 => ⟨S16x4, .f32⟩
  | 32 => ⟨S_, .f32⟩
  | 33 => ⟨S16x4, .f32⟩
  | 34 => ⟨S16x4, .f32⟩
  | 35 => ⟨S16x4x1, .f32⟩
  | 36 => ⟨S16x4x1024, .f32⟩
  | 37 => ⟨S16x4x1024, .f32⟩
  | 38 => ⟨S_, .f32⟩
  | 39 => ⟨S16x4x1024, .f32⟩
  | 40 => ⟨S16x4x1024, .f32⟩
  | 41 => ⟨S16x1x1024, .f32⟩
  | 42 => ⟨S16x1024, .f32⟩
  | 43 => ⟨S16x1x1024, .f32⟩
  | 44 => ⟨S16x1024, .f32⟩
  | 45 => ⟨S16x1024, .f32⟩
  | 46 => ⟨S16x1x1024, .f32⟩
  | 47 => ⟨S16x1024, .f32⟩
  | 48 => ⟨S16x1024, .f32⟩
  | 49 => ⟨S16x1x1024, .f32⟩
  | 50 => ⟨S16x1024, .f32⟩
  | 51 => ⟨S16x1024, .f32⟩
  | 52 => ⟨S16x1024, .f32⟩
  | 53 => ⟨S16x1024, .f32⟩
  | 54 => ⟨S16x1024, .f32⟩
  | 55 => ⟨S16x1024, .f32⟩
  | 56 => ⟨S16x1024, .i32⟩
  | 57 => ⟨S16x1024, .f32⟩
  | 58 => ⟨S16x1024, .i32⟩
  | 59 => ⟨S_, .i32⟩
  | 60 => ⟨S16x1024, .i32⟩
  | 61 => ⟨S16x1024, .i1⟩
  | 62 => ⟨S_, .i32⟩
  | 63 => ⟨S16x1024, .i32⟩
  | 64 => ⟨S16x1024, .i32⟩
  | 65 => ⟨S16x1024, .i32⟩
  | 66 => ⟨S16x1024x1, .i32⟩
  | 67 => ⟨S1, .i32⟩
  | 68 => ⟨S_, .i32⟩
  | 69 => ⟨S16x1024x1, .i32⟩
  | 70 => ⟨S16x1024x1, .i1⟩
  | 71 => ⟨S1x1x1, .i32⟩
  | 72 => ⟨S16x1024x1, .i32⟩
  | 73 => ⟨S16x1024x1, .i1⟩
  | 74 => ⟨S16x1024x1, .i1⟩
  | 75 => ⟨S_, .i1⟩
  | 76 => ⟨S16x1024, .i1⟩
  | 77 => ⟨S16x1024, .f32⟩
  | 78 => ⟨S_, .f32⟩
  | 79 => ⟨S16x1024, .f32⟩
  | 80 => ⟨S16x1024, .f32⟩
  | 81 => ⟨S_, .f32⟩
  | 82 => ⟨S16x1024, .f32⟩
  | 83 => ⟨S16x1024, .f32⟩
  | 84 => ⟨S_, .f32⟩
  | 85 => ⟨S16x1, .f32⟩
  | 86 => ⟨S16x1023, .f32⟩
  | 87 => ⟨S16x1024, .f32⟩
  | 88 => ⟨S16x1024, .f32⟩
  | 89 => ⟨S_, .f32⟩
  | 90 => ⟨S16x2, .f32⟩
  | 91 => ⟨S16x1022, .f32⟩
  | 92 => ⟨S16x1024, .f32⟩
  | 93 => ⟨S16x1024, .f32⟩
  | 94 => ⟨S_, .f32⟩
  | 95 => ⟨S16x4, .f32⟩
  | 96 => ⟨S16x1020, .f32⟩
  | 97 => ⟨S16x1024, .f32⟩
  | 98 => ⟨S16x1024, .f32⟩
  | 99 => ⟨S_, .f32⟩
  | 100 => ⟨S16x8, .f32⟩
  | 101 => ⟨S16x1016, .f32⟩
  | 102 => ⟨S16x1024, .f32⟩
  | 103 => ⟨S16x1024, .f32⟩
  | 104 => ⟨S_, .f32⟩
  | 105 => ⟨S16x16, .f32⟩
  | 106 => ⟨S16x1008, .f32⟩
  | 107 => ⟨S16x1024, .f32⟩
  | 108 => ⟨S16x1024, .f32⟩
  | 109 => ⟨S_, .f32⟩
  | 110 => ⟨S16x32, .f32⟩
  | 111 => ⟨S16x992, .f32⟩
  | 112 => ⟨S16x1024, .f32⟩
  | 113 => ⟨S16x1024, .f32⟩
  | 114 => ⟨S_, .f32⟩
  | 115 => ⟨S16x64, .f32⟩
  | 116 => ⟨S16x960, .f32⟩
  | 117 => ⟨S16x1024, .f32⟩
  | 118 => ⟨S16x1024, .f32⟩
  | 119 => ⟨S_, .f32⟩
  | 120 => ⟨S16x128, .f32⟩
  | 121 => ⟨S16x896, .f32⟩
  | 122 => ⟨S16x1024, .f32⟩
  | 123 => ⟨S16x1024, .f32⟩
  | 124 => ⟨S_, .f32⟩
  | 125 => ⟨S16x256, .f32⟩
  | 126 => ⟨S16x768, .f32⟩
  | 127 => ⟨S16x1024, .f32⟩
  | _ => ⟨S16x2048, .f32⟩

abbrev hbmTy0_1 (i : Nat) : BufTy := match i % 128 with
  | 0 => ⟨S16x1024, .f32⟩
  | 1 => ⟨S_, .f32⟩
  | 2 => ⟨S16x512, .f32⟩
  | 3 => ⟨S16x512, .f32⟩
  | 4 => ⟨S16x1024, .f32⟩
  | 5 => ⟨S16x1024, .f32⟩
  | 6 => ⟨S16x1024, .f32⟩
  | 7 => ⟨S16, .i32⟩
  | 8 => ⟨S16x1, .i32⟩
  | 9 => ⟨S_, .f32⟩
  | 10 => ⟨S16x1024, .f32⟩
  | 11 => ⟨S_, .i32⟩
  | 12 => ⟨S16x1, .i32⟩
  | 13 => ⟨S16x1, .i1⟩
  | 14 => ⟨S_, .i32⟩
  | 15 => ⟨S16x1, .i32⟩
  | 16 => ⟨S16x1, .i32⟩
  | 17 => ⟨S16x1, .i32⟩
  | 18 => ⟨S_, .i32⟩
  | 19 => ⟨S16x1024, .i32⟩
  | 20 => ⟨S16x1024, .i1⟩
  | 21 => ⟨S_, .i32⟩
  | 22 => ⟨S16x1024, .i32⟩
  | 23 => ⟨S16x1024, .i32⟩
  | 24 => ⟨S16x1024, .i32⟩
  | 25 => ⟨S16x1024, .i32⟩
  | 26 => ⟨S16x1024x1, .i32⟩
  | 27 => ⟨S16x1024x1, .i32⟩
  | 28 => ⟨S16x1024x2, .i32⟩
  | 29 => ⟨S16x1024, .f32⟩
  | 30 => ⟨S16x1x1024, .f32⟩
  | 31 => ⟨S16x1024x64, .f32⟩
  | 32 => ⟨S_, .f32⟩
  | 33 => ⟨S16x1024, .f32⟩
  | 34 => ⟨S16x1024, .f32⟩
  | 35 => ⟨S16x1x64, .f32⟩
  | 36 => ⟨S_, .f32⟩
  | 37 => ⟨S16x1, .f32⟩
  | 38 => ⟨S16x1, .f32⟩
  | 39 => ⟨S16x1x1024, .f32⟩
  | 40 => ⟨S16x1x1, .f32⟩
  | 41 => ⟨S16x1x1024, .f32⟩
  | 42 => ⟨S16x1x1024, .f32⟩
  | 43 => ⟨S_, .f32⟩
  | 44 => ⟨S16x1x1024, .f32⟩
  | 45 => ⟨S16x1x1024, .f32⟩
  | 46 => ⟨S16x1x1024, .f32⟩
  | 47 => ⟨S_, .f32⟩
  | 48 => ⟨S16x1, .f32⟩
  | 49 => ⟨S16x1, .f32⟩
  | 50 => ⟨S16x1, .f32⟩
  | 51 => ⟨S16x1, .f32⟩
  | 52 => ⟨S16x1, .i1⟩
  | 53 => ⟨S16x1, .f32⟩
  | 54 => ⟨S16x1, .f32⟩
  | 55 => ⟨S16x1, .f32⟩
  | 56 => ⟨S16x1, .f32⟩
  | 57 => ⟨S16x1, .f32⟩
  | 58 => ⟨S16x1, .f32⟩
  | 59 => ⟨S16x1, .f32⟩
  | 60 => ⟨S16x1, .f32⟩
  | 61 => ⟨S_, .f32⟩
  | 62 => ⟨S16x1, .f32⟩
  | 63 => ⟨S16x1, .f32⟩
  | 64 => ⟨S16x1x1, .f32⟩
  | 65 => ⟨S16x1x1024, .f32⟩
  | 66 => ⟨S16x1x1024, .f32⟩
  | 67 => ⟨S_, .f32⟩
  | 68 => ⟨S16x1, .f32⟩
  | 69 => ⟨S_, .f32⟩
  | 70 => ⟨S16x1, .f32⟩
  | 71 => ⟨S16x1, .f32⟩
  | 72 => ⟨S16x1x1, .f32⟩
  | 73 => ⟨S16x1x1024, .f32⟩
  | 74 => ⟨S16x1x1024, .f32⟩
  | 75 => ⟨S16x1x1024, .f32⟩
  | 76 => ⟨S_, .f32⟩
  | 77 => ⟨S16x1, .f32⟩
  | 78 => ⟨S16x1x1, .f32⟩
  | 79 => ⟨S16x1x1024, .f32⟩
  | 80 => ⟨S16x1x1024, .f32⟩
  | 81 => ⟨S16x1024, .f32⟩
  | 82 => ⟨S16x1, .f32⟩
  | 83 => ⟨S16x1, .f32⟩
  | 84 => ⟨S_, .f32⟩
  | 85 => ⟨S16x1, .f32⟩
  | 86 => ⟨S16x1, .f32⟩
  | 87 => ⟨S_, .f32⟩
  | 88 => ⟨S16x1, .f32⟩
  | 89 => ⟨S16x1, .f32⟩
  | 90 => ⟨S16x1, .f32⟩
  | 91 => ⟨S16x1, .f32⟩
  | 92 => ⟨S_, .f32⟩
  | 93 => ⟨S16x1, .f32⟩
  | 94 => ⟨S16x1, .f32⟩
  | 95 => ⟨S_, .f32⟩
  | 96 => ⟨S16x1, .f32⟩
  | 97 => ⟨S16x1, .f32⟩
  | 98 => ⟨S16x1024, .f32⟩
  | 99 => ⟨S16x1024, .f32⟩
  | 100 => ⟨S_, .f32⟩
  | 101 => ⟨S16x1, .f32⟩
  | 102 => ⟨S16x1, .f32⟩
  | 103 => ⟨S16x1024, .f32⟩
  | 104 => ⟨S16x1024, .f32⟩
  | 105 => ⟨S16x1024, .f32⟩
  | 106 => ⟨S16x1024, .f32⟩
  | 107 => ⟨S16x1024, .f32⟩
  | 108 => ⟨S16x64, .f32⟩
  | 109 => ⟨S16x64, .f32⟩
  | 110 => ⟨S_, .f32⟩
  | 111 => ⟨S16x64, .f32⟩
  | 112 => ⟨S16x64, .f32⟩
  | 113 => ⟨S_, .f32⟩
  | 114 => ⟨S16x64, .f32⟩
  | 115 => ⟨S16x64, .f32⟩
  | 116 => ⟨S16x1024x1, .f32⟩
  | 117 => ⟨S16x1x64, .f32⟩
  | 118 => ⟨S16x1024x64, .f32⟩
  | 119 => ⟨S16x1024x64, .f32⟩
  | 120 => ⟨S16x1024x64, .f32⟩
  | 121 => ⟨S_, .f32⟩
  | 122 => ⟨S16x1024x64, .f32⟩
  | 123 => ⟨S16x1024x64, .f32⟩
  | 124 => ⟨S16x1024x64, .f32⟩
  | 125 => ⟨S16x1024x1, .f32⟩
  | 126 => ⟨S16x1x64, .f32⟩
  | 127 => ⟨S16x1024x64, .f32⟩
  | _ => ⟨S16x2048, .f32⟩

abbrev hbmTy0_2 (i : Nat) : BufTy := match i % 128 with
  | 0 => ⟨S16x1024x64, .f32⟩
  | 1 => ⟨S16x1024x64, .f32⟩
  | 2 => ⟨S16x1024x64, .f32⟩
  | 3 => ⟨S16x1024x1, .f32⟩
  | 4 => ⟨S_, .f32⟩
  | 5 => ⟨S16x1024x1, .f32⟩
  | 6 => ⟨S16x1024x1, .f32⟩
  | 7 => ⟨S16x1x1024, .f32⟩
  | 8 => ⟨S16x1024x1024, .f32⟩
  | 9 => ⟨S16x1024x1024, .f32⟩
  | 10 => ⟨S16x1024x1024, .f32⟩
  | 11 => ⟨S16x1024x1024, .f32⟩
  | 12 => ⟨S16x1024x1, .f32⟩
  | 13 => ⟨S16x1x1024, .f32⟩
  | 14 => ⟨S16x1024x1024, .f32⟩
  | 15 => ⟨S16x1024x1024, .f32⟩
  | 16 => ⟨S16x1024x1024, .f32⟩
  | 17 => ⟨S16x1024x1024, .f32⟩
  | 18 => ⟨S1024x1024, .i32⟩
  | 19 => ⟨S1024x1024, .i32⟩
  | 20 => ⟨S_, .i32⟩
  | 21 => ⟨S1024x1024, .i32⟩
  | 22 => ⟨S1024x1024, .i32⟩
  | 23 => ⟨S1024x1024, .i1⟩
  | 24 => ⟨S1024x1024, .f32⟩
  | 25 => ⟨S1x1024x1024, .f32⟩
  | 26 => ⟨S_, .f32⟩
  | 27 => ⟨S1x1024x1024, .f32⟩
  | 28 => ⟨S1x1024x1024, .f32⟩
  | 29 => ⟨S16x1024x1024, .f32⟩
  | 30 => ⟨S16x1024x1024, .f32⟩
  | 31 => ⟨S_, .f32⟩
  | 32 => ⟨S16, .f32⟩
  | 33 => ⟨S16x1, .f32⟩
  | 34 => ⟨S_, .f32⟩
  | 35 => ⟨S16x1, .f32⟩
  | 36 => ⟨S16x1, .f32⟩
  | 37 => ⟨S16x1024, .f32⟩
  | 38 => ⟨S16x1024, .f32⟩
  | 39 => ⟨S16x1024, .f32⟩
  | 40 => ⟨S16x4x1024, .f32⟩
  | 41 => ⟨S16x1024x64, .f32⟩
  | 42 => ⟨S_, .f32⟩
  | 43 => ⟨S16x1024, .f32⟩
  | 44 => ⟨S16x1024, .f32⟩
  | 45 => ⟨S16x4x64, .f32⟩
  | 46 => ⟨S_, .f32⟩
  | 47 => ⟨S16x4, .f32⟩
  | 48 => ⟨S16x4, .f32⟩
  | 49 => ⟨S16x1x1024, .f32⟩
  | 50 => ⟨S16x4x1, .f32⟩
  | 51 => ⟨S16x4x1024, .f32⟩
  | 52 => ⟨S16x4x1024, .f32⟩
  | 53 => ⟨S16x4x1024, .f32⟩
  | 54 => ⟨S_, .f32⟩
  | 55 => ⟨S16x4x1024, .f32⟩
  | 56 => ⟨S16x4x1024, .f32⟩
  | 57 => ⟨S16x4x1024, .f32⟩
  | 58 => ⟨S_, .f32⟩
  | 59 => ⟨S16x4, .f32⟩
  | 60 => ⟨S16x4, .f32⟩
  | 61 => ⟨S16x4, .f32⟩
  | 62 => ⟨S16x4, .f32⟩
  | 63 => ⟨S16x4, .i1⟩
  | 64 => ⟨S16x4, .f32⟩
  | 65 => ⟨S16x4, .f32⟩
  | 66 => ⟨S16x4, .f32⟩
  | 67 => ⟨S16x4, .f32⟩
  | 68 => ⟨S16x4, .f32⟩
  | 69 => ⟨S16x4, .f32⟩
  | 70 => ⟨S16x4, .f32⟩
  | 71 => ⟨S16x4, .f32⟩
  | 72 => ⟨S_, .f32⟩
  | 73 => ⟨S16x4, .f32⟩
  | 74 => ⟨S16x4, .f32⟩
  | 75 => ⟨S16x4x1, .f32⟩
  | 76 => ⟨S16x4x1024, .f32⟩
  | 77 => ⟨S16x4x1024, .f32⟩
  | 78 => ⟨S_, .f32⟩
  | 79 => ⟨S16x4, .f32⟩
  | 80 => ⟨S_, .f32⟩
  | 81 => ⟨S16x4, .f32⟩
  | 82 => ⟨S16x4, .f32⟩
  | 83 => ⟨S16x4x1, .f32⟩
  | 84 => ⟨S16x4x1024, .f32⟩
  | 85 => ⟨S16x4x1024, .f32⟩
  | 86 => ⟨S16x4x1024, .f32⟩
  | 87 => ⟨S_, .f32⟩
  | 88 => ⟨S16x4, .f32⟩
  | 89 => ⟨S16x4x1, .f32⟩
  | 90 => ⟨S16x4x1024, .f32⟩
  | 91 => ⟨S16x4x1024, .f32⟩
  | 92 => ⟨S16x4x1024, .f32⟩
  | 93 => ⟨S16x4x1024, .f32⟩
  | 94 => ⟨S_, .f32⟩
  | 95 => ⟨S16x4, .f32⟩
  | 96 => ⟨S_, .f32⟩
  | 97 => ⟨S16x4, .f32⟩
  | 98 => ⟨S16x4, .f32⟩
  | 99 => ⟨S16x4x1, .f32⟩
  | 100 => ⟨S16x4x3, .f32⟩
  | 101 => ⟨S16x4x3, .f32⟩
  | 102 => ⟨S16x4x3, .f32⟩
  | 103 => ⟨S_, .f32⟩
  | 104 => ⟨S16x4, .f32⟩
  | 105 => ⟨S16x4x1, .f32⟩
  | 106 => ⟨S16x4x3, .f32⟩
  | 107 => ⟨S16x4x3, .f32⟩
  | 108 => ⟨S16x4x1, .f32⟩
  | 109 => ⟨S16x4x1024, .f32⟩
  | 110 => ⟨S16x4x1024, .f32⟩
  | 111 => ⟨S16x4x1, .f32⟩
  | 112 => ⟨S16x4x1024, .f32⟩
  | 113 => ⟨S16x4x1024, .f32⟩
  | 114 => ⟨S16x4x1024, .f32⟩
  | 115 => ⟨S16x4x1, .f32⟩
  | 116 => ⟨S16x4x1024, .f32⟩
  | 117 => ⟨S16x4x1024, .f32⟩
  | 118 => ⟨S16x4x1024, .f32⟩
  | 119 => ⟨S16x4x64, .f32⟩
  | 120 => ⟨S16x1x1024, .f32⟩
  | 121 => ⟨S16x1x1024, .f32⟩
  | 122 => ⟨S16x1x1024, .f32⟩
  | _ => ⟨S16x2048, .f32⟩

abbrev hbmTy (i : Nat) : BufTy := match i / 128 with
  | 0 => hbmTy0_0 i
  | 1 => hbmTy0_1 i
  | 2 => hbmTy0_2 i
  | _ => ⟨S16x2048, .f32⟩

abbrev bufTy : (tb : Table) → Fin (tcTables nBuf tb) → BufTy
  | .hbm, ⟨i, _⟩ => hbmTy i
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst : Ref sig .tc := ⟨.hbm, 29, rfl⟩
abbrev main_v20 : Ref sig .tc := ⟨.hbm, 30, rfl⟩
abbrev main_v21 : Ref sig .tc := ⟨.hbm, 31, rfl⟩
abbrev main_cst_0 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_1 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_call0_v0 : Ref sig .tc := ⟨.hbm, 56, rfl⟩
abbrev main_call0_v1_0 : Ref sig .tc := ⟨.hbm, 57, rfl⟩
abbrev main_v44 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v45 : Ref sig .tc := ⟨.hbm, 80, rfl⟩
abbrev main_cst_2 : Ref sig .tc := ⟨.hbm, 81, rfl⟩
abbrev main_v46 : Ref sig .tc := ⟨.hbm, 82, rfl⟩
abbrev main_v47 : Ref sig .tc := ⟨.hbm, 83, rfl⟩
abbrev main_cst_3 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_cst_4 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_5 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_cst_6 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_cst_7 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_8 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_cst_9 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_cst_10 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_11 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_12 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_13 : Ref sig .tc := ⟨.hbm, 137, rfl⟩
abbrev main_v91 : Ref sig .tc := ⟨.hbm, 138, rfl⟩
abbrev main_c : Ref sig .tc := ⟨.hbm, 139, rfl⟩
abbrev main_v92 : Ref sig .tc := ⟨.hbm, 140, rfl⟩
abbrev main_v93 : Ref sig .tc := ⟨.hbm, 141, rfl⟩
abbrev main_c_14 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_c_15 : Ref sig .tc := ⟨.hbm, 146, rfl⟩
abbrev main_v97 : Ref sig .tc := ⟨.hbm, 147, rfl⟩
abbrev main_v98 : Ref sig .tc := ⟨.hbm, 148, rfl⟩
abbrev main_c_16 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_cst_17 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_cst_18 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_cst_19 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_call2_cst : Ref sig .tc := ⟨.hbm, 175, rfl⟩
abbrev main_call2_v0 : Ref sig .tc := ⟨.hbm, 176, rfl⟩
abbrev main_call2_v1 : Ref sig .tc := ⟨.hbm, 177, rfl⟩
abbrev main_call2_v2 : Ref sig .tc := ⟨.hbm, 178, rfl⟩
abbrev main_call2_v3 : Ref sig .tc := ⟨.hbm, 179, rfl⟩
abbrev main_call2_v4 : Ref sig .tc := ⟨.hbm, 180, rfl⟩
abbrev main_call2_v5 : Ref sig .tc := ⟨.hbm, 181, rfl⟩
abbrev main_call2_v6 : Ref sig .tc := ⟨.hbm, 182, rfl⟩
abbrev main_call2_v7 : Ref sig .tc := ⟨.hbm, 183, rfl⟩
abbrev main_call2_v8 : Ref sig .tc := ⟨.hbm, 184, rfl⟩
abbrev main_call2_v9 : Ref sig .tc := ⟨.hbm, 185, rfl⟩
abbrev main_call2_v10 : Ref sig .tc := ⟨.hbm, 186, rfl⟩
abbrev main_call2_v11 : Ref sig .tc := ⟨.hbm, 187, rfl⟩
abbrev main_v121 : Ref sig .tc := ⟨.hbm, 188, rfl⟩
abbrev main_cst_20 : Ref sig .tc := ⟨.hbm, 189, rfl⟩
abbrev main_v122 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_cst_21 : Ref sig .tc := ⟨.hbm, 195, rfl⟩
abbrev main_v127 : Ref sig .tc := ⟨.hbm, 196, rfl⟩
abbrev main_cst_22 : Ref sig .tc := ⟨.hbm, 197, rfl⟩
abbrev main_v128 : Ref sig .tc := ⟨.hbm, 198, rfl⟩
abbrev main_v129 : Ref sig .tc := ⟨.hbm, 199, rfl⟩
abbrev main_v130 : Ref sig .tc := ⟨.hbm, 200, rfl⟩
abbrev main_v131 : Ref sig .tc := ⟨.hbm, 201, rfl⟩
abbrev main_v132 : Ref sig .tc := ⟨.hbm, 202, rfl⟩
abbrev main_v133 : Ref sig .tc := ⟨.hbm, 203, rfl⟩
abbrev main_cst_23 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_cst_24 : Ref sig .tc := ⟨.hbm, 212, rfl⟩
abbrev main_v141 : Ref sig .tc := ⟨.hbm, 213, rfl⟩
abbrev main_v142 : Ref sig .tc := ⟨.hbm, 214, rfl⟩
abbrev main_cst_25 : Ref sig .tc := ⟨.hbm, 215, rfl⟩
abbrev main_v143 : Ref sig .tc := ⟨.hbm, 216, rfl⟩
abbrev main_v144 : Ref sig .tc := ⟨.hbm, 217, rfl⟩
abbrev main_v145 : Ref sig .tc := ⟨.hbm, 218, rfl⟩
abbrev main_v146 : Ref sig .tc := ⟨.hbm, 219, rfl⟩
abbrev main_cst_26 : Ref sig .tc := ⟨.hbm, 220, rfl⟩
abbrev main_v147 : Ref sig .tc := ⟨.hbm, 221, rfl⟩
abbrev main_v148 : Ref sig .tc := ⟨.hbm, 222, rfl⟩
abbrev main_cst_27 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_28 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_cst_29 : Ref sig .tc := ⟨.hbm, 238, rfl⟩
abbrev main_v162 : Ref sig .tc := ⟨.hbm, 239, rfl⟩
abbrev main_v163 : Ref sig .tc := ⟨.hbm, 240, rfl⟩
abbrev main_cst_30 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_v169 : Ref sig .tc := ⟨.hbm, 247, rfl⟩
abbrev main_v170 : Ref sig .tc := ⟨.hbm, 248, rfl⟩
abbrev main_cst_31 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_cst_32 : Ref sig .tc := ⟨.hbm, 260, rfl⟩
abbrev main_v181 : Ref sig .tc := ⟨.hbm, 261, rfl⟩
abbrev main_v182 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_c_33 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_cst_34 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_cst_35 : Ref sig .tc := ⟨.hbm, 287, rfl⟩
abbrev main_v205 : Ref sig .tc := ⟨.hbm, 288, rfl⟩
abbrev main_v206 : Ref sig .tc := ⟨.hbm, 289, rfl⟩
abbrev main_cst_36 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_cst_37 : Ref sig .tc := ⟨.hbm, 298, rfl⟩
abbrev main_v214 : Ref sig .tc := ⟨.hbm, 299, rfl⟩
abbrev main_v215 : Ref sig .tc := ⟨.hbm, 300, rfl⟩
abbrev main_v216 : Ref sig .tc := ⟨.hbm, 301, rfl⟩
abbrev main_cst_38 : Ref sig .tc := ⟨.hbm, 302, rfl⟩
abbrev main_v217 : Ref sig .tc := ⟨.hbm, 303, rfl⟩
abbrev main_v218 : Ref sig .tc := ⟨.hbm, 304, rfl⟩
abbrev main_v219 : Ref sig .tc := ⟨.hbm, 305, rfl⟩
abbrev main_v220 : Ref sig .tc := ⟨.hbm, 306, rfl⟩
abbrev main_v221 : Ref sig .tc := ⟨.hbm, 307, rfl⟩
abbrev main_v222 : Ref sig .tc := ⟨.hbm, 308, rfl⟩
abbrev main_v223 : Ref sig .tc := ⟨.hbm, 309, rfl⟩
abbrev main_cst_39 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_call3_cst : Ref sig .tc := ⟨.hbm, 314, rfl⟩
abbrev main_call3_v0 : Ref sig .tc := ⟨.hbm, 315, rfl⟩
abbrev main_call3_v1 : Ref sig .tc := ⟨.hbm, 316, rfl⟩
abbrev main_call3_v2 : Ref sig .tc := ⟨.hbm, 317, rfl⟩
abbrev main_call3_v3 : Ref sig .tc := ⟨.hbm, 318, rfl⟩
abbrev main_call3_v4 : Ref sig .tc := ⟨.hbm, 319, rfl⟩
abbrev main_call3_v5 : Ref sig .tc := ⟨.hbm, 320, rfl⟩
abbrev main_call3_v6 : Ref sig .tc := ⟨.hbm, 321, rfl⟩
abbrev main_call3_v7 : Ref sig .tc := ⟨.hbm, 322, rfl⟩
abbrev main_call3_v8 : Ref sig .tc := ⟨.hbm, 323, rfl⟩
abbrev main_call3_v9 : Ref sig .tc := ⟨.hbm, 324, rfl⟩
abbrev main_call3_v10 : Ref sig .tc := ⟨.hbm, 325, rfl⟩
abbrev main_call3_v11 : Ref sig .tc := ⟨.hbm, 326, rfl⟩
abbrev main_v227 : Ref sig .tc := ⟨.hbm, 327, rfl⟩
abbrev main_cst_40 : Ref sig .tc := ⟨.hbm, 328, rfl⟩
abbrev main_v228 : Ref sig .tc := ⟨.hbm, 329, rfl⟩
abbrev main_v229 : Ref sig .tc := ⟨.hbm, 330, rfl⟩
abbrev main_v230 : Ref sig .tc := ⟨.hbm, 331, rfl⟩
abbrev main_v231 : Ref sig .tc := ⟨.hbm, 332, rfl⟩
abbrev main_v232 : Ref sig .tc := ⟨.hbm, 333, rfl⟩
abbrev main_cst_41 : Ref sig .tc := ⟨.hbm, 334, rfl⟩
abbrev main_v233 : Ref sig .tc := ⟨.hbm, 335, rfl⟩
abbrev main_cst_42 : Ref sig .tc := ⟨.hbm, 336, rfl⟩
abbrev main_v234 : Ref sig .tc := ⟨.hbm, 337, rfl⟩
abbrev main_v235 : Ref sig .tc := ⟨.hbm, 338, rfl⟩
abbrev main_v236 : Ref sig .tc := ⟨.hbm, 339, rfl⟩
abbrev main_v237 : Ref sig .tc := ⟨.hbm, 340, rfl⟩
abbrev main_v238 : Ref sig .tc := ⟨.hbm, 341, rfl⟩
abbrev main_v239 : Ref sig .tc := ⟨.hbm, 342, rfl⟩
abbrev main_cst_43 : Ref sig .tc := ⟨.hbm, 343, rfl⟩
abbrev main_v240 : Ref sig .tc := ⟨.hbm, 344, rfl⟩
abbrev main_v241 : Ref sig .tc := ⟨.hbm, 345, rfl⟩
abbrev main_v242 : Ref sig .tc := ⟨.hbm, 346, rfl⟩
abbrev main_v243 : Ref sig .tc := ⟨.hbm, 347, rfl⟩
abbrev main_v244 : Ref sig .tc := ⟨.hbm, 348, rfl⟩
abbrev main_v245 : Ref sig .tc := ⟨.hbm, 349, rfl⟩
abbrev main_cst_44 : Ref sig .tc := ⟨.hbm, 350, rfl⟩
abbrev main_v246 : Ref sig .tc := ⟨.hbm, 351, rfl⟩
abbrev main_cst_45 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev main_v252 : Ref sig .tc := ⟨.hbm, 358, rfl⟩
abbrev main_cst_46 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_v259 : Ref sig .tc := ⟨.hbm, 366, rfl⟩
abbrev main_v260 : Ref sig .tc := ⟨.hbm, 367, rfl⟩
abbrev main_v261 : Ref sig .tc := ⟨.hbm, 368, rfl⟩
abbrev main_v262 : Ref sig .tc := ⟨.hbm, 369, rfl⟩
abbrev main_v263 : Ref sig .tc := ⟨.hbm, 370, rfl⟩
abbrev main_v264 : Ref sig .tc := ⟨.hbm, 371, rfl⟩
abbrev main_v265 : Ref sig .tc := ⟨.hbm, 372, rfl⟩
abbrev main_v266 : Ref sig .tc := ⟨.hbm, 373, rfl⟩
abbrev main_v267 : Ref sig .tc := ⟨.hbm, 374, rfl⟩
abbrev main_v268 : Ref sig .tc := ⟨.hbm, 375, rfl⟩
abbrev main_v269 : Ref sig .tc := ⟨.hbm, 376, rfl⟩
abbrev main_v270 : Ref sig .tc := ⟨.hbm, 377, rfl⟩
abbrev main_v271 : Ref sig .tc := ⟨.hbm, 378, rfl⟩

abbrev nD : Nat := 1
abbrev τ : Topo := Topo.v7x

variable {F : FTy → Type} [FloatOps F]
-- ==== Proof.Batch.lean ====
/- One batch row of the kernel, stage by stage: the vectors the body computes for one of the two batch rows a grid
   point handles, as functions of the pieces of the input blocks that row loads. -/
module

public import proofs.«01_k».proof.Proof.Gen.KernelIdeal.Skeleton
public import Idealize.ShloMosaic.Lib.Pointwise

@[expose] public section

set_option maxRecDepth 16384

noncomputable section

namespace Cert.KernelIdeal.Own

open Cert.KernelIdeal Cert.KernelIdeal.Gen Idealize.ShloMosaic

/-- What one batch row loads. -/
structure Batch where
  /-- the row of the controller's output -/
  x : Vec Ideal S1x2048 .f32
  /-- the interface's weights -/
  wif : Vec Ideal S471x2048 .f32
  /-- the interface's bias -/
  bias : Vec Ideal S1x471 .f32
  /-- the memory -/
  mem : Vec Ideal S1x1024x64 .f32
  /-- the four read weightings, loaded together -/
  rw : Vec Ideal S1x4x1024 .f32
  /-- the four read weightings, loaded one by one -/
  r0 : Vec Ideal S1x1x1024 .f32
  r1 : Vec Ideal S1x1x1024 .f32
  r2 : Vec Ideal S1x1x1024 .f32
  r3 : Vec Ideal S1x1x1024 .f32
  /-- the write weighting -/
  wt : Vec Ideal S1x1x1024 .f32
  /-- the usage -/
  us : Vec Ideal S1x1x1024 .f32
  /-- the precedence -/
  pr : Vec Ideal S1x1x1024 .f32
  /-- the upper triangle of ones -/
  triu : Vec Ideal S1024x1024 .f32
  /-- the link matrix -/
  lm : Vec Ideal S1x1024x1024 .f32

namespace Batch

variable (b : Batch)

/-- The interface vector. -/
def iv : FVec Ideal S1x471 .f32 := k0_pay48 b.x b.wif b.bias
/-- The memory as a matrix. -/
def memory : FVec Ideal S1024x64 .f32 := k0_pay49 b.mem
/-- The new usage. -/
def usage : FVec Ideal S1x1024 .f32 :=
  k0_pay56 b.iv (k0_pay50 b.us) (k0_pay51 b.wt) (k0_pay54 b.iv k0_pay52 (k0_pay53 b.x b.wif b.bias) b.r0 b.r1)
    (k0_pay55 b.iv b.r2) b.r3
/-- The exponent of the allocation weighting: the logarithms of the usages, summed by the comparison mask. -/
def logsum : FVec Ideal S1x1024 .f32 :=
  k0_pay58 b.iv (k0_pay50 b.us) (k0_pay51 b.wt) (k0_pay54 b.iv k0_pay52 (k0_pay53 b.x b.wif b.bias) b.r0 b.r1)
    (k0_pay55 b.iv b.r2) b.r3 b.triu
/-- The allocation weighting. -/
def alloc : FVec Ideal S1x1024 .f32 := k0_pay59 b.usage b.logsum
/-- The content weighting of the write head. -/
def content : FVec Ideal S1x1024 .f32 := k0_pay61 b.iv b.memory
/-- The write weighting. -/
def write : FVec Ideal S1x1024 .f32 := k0_pay63 b.iv b.alloc b.content (k0_pay62 b.iv)
/-- The write weighting as a column. -/
def column : FVec Ideal S1024x1 .f32 := k0_pay65 b.iv b.alloc b.content (k0_pay62 b.iv)
/-- The memory after the write. -/
def written : FVec Ideal S1024x64 .f32 := k0_pay66 b.iv b.memory b.alloc b.content (k0_pay62 b.iv)
/-- The link matrix. -/
def link : FVec Ideal S1024x1024 .f32 := k0_pay70 b.write b.column b.pr b.lm
/-- The forward weightings of the read heads. -/
def forward : FVec Ideal S4x1024 .f32 := k0_pay73 b.link (k0_pay72 b.rw)
/-- The backward weightings of the read heads. -/
def backward : FVec Ideal S4x1024 .f32 := k0_pay74 b.link (k0_pay72 b.rw)
/-- The content weightings of the read heads. -/
def contents : FVec Ideal S4x1024 .f32 := k0_pay75 b.iv k0_pay60 b.written
/-- The read weightings. -/
def reads : FVec Ideal S4x1024 .f32 :=
  k0_pay1 b.iv b.forward b.backward b.contents (k0_pay76 b.iv) (k0_pay77 b.iv)

/-- The blocks the body stores for this row. -/
def storedUsage : FVec Ideal S1x1x1024 .f32 :=
  k0_pay57 b.iv (k0_pay50 b.us) (k0_pay51 b.wt) (k0_pay54 b.iv k0_pay52 (k0_pay53 b.x b.wif b.bias) b.r0 b.r1)
    (k0_pay55 b.iv b.r2) b.r3
def storedWrite : FVec Ideal S1x1x1024 .f32 := k0_pay64 b.iv b.alloc b.content (k0_pay62 b.iv)
def storedMemory : FVec Ideal S1x1024x64 .f32 := k0_pay67 b.written
def storedPrecedence : FVec Ideal S1x1x1024 .f32 := k0_pay69 b.write b.pr
def storedLink : FVec Ideal S1x1024x1024 .f32 := k0_pay71 b.write b.column b.pr b.lm
def storedReads : FVec Ideal S1x4x1024 .f32 :=
  k0_pay2 b.iv b.forward b.backward b.contents (k0_pay76 b.iv) (k0_pay77 b.iv)
def storedRead : FVec Ideal S1x4x64 .f32 :=
  k0_pay3 b.iv b.written b.forward b.backward b.contents (k0_pay76 b.iv) (k0_pay77 b.iv)

end Batch

end Cert.KernelIdeal.Own

end
-- ==== Proof.Spec.lean ====
/- The memory step of one batch row as mathematics over the extended reals: what the reference computes for the row,
   value by value, and what the kernel is shown to compute. Nothing here names a program. -/
module

public import Idealize.ShloMosaic.PureOps.Ideal
public import Idealize.ShloMosaic.Lib.Pointwise

@[expose] public section

noncomputable section

namespace Cert.Dnc

open Idealize.ShloMosaic

/-- The logistic function. -/
def sig (z : EReal) : EReal := Ideal.div 1 (1 + Ideal.exp (0 - z))

/-- `1 + softplus z`, the softplus by its stable form. -/
def oneplus (z : EReal) : EReal :=
  1 + max z 0 + Ideal.log (1 + Ideal.exp (0 - FloatOps.absf (F := Ideal) (φ := .f32) z))

/-- The largest of finitely many values. -/
def peak {n : ℕ} (z : Fin n → EReal) : EReal :=
  Finset.univ.fold max (Ideal.ofBits FTy.f32 4286578688#32) z

/-- The softmax of `z` at `j`. -/
def smax {n : ℕ} (z : Fin n → EReal) (j : Fin n) : EReal :=
  Ideal.div (Ideal.exp (z j - peak z)) (∑ k, Ideal.exp (z k - peak z))

/-- The cosine of a key and a row of the memory, its denominator kept away from zero. -/
def cosine (key : Fin 64 → EReal) (row : Fin 64 → EReal) : EReal :=
  Ideal.div (∑ w, key w * row w)
    (Ideal.sqrt (∑ w, row w * row w) * Ideal.sqrt (∑ w, key w * key w) + Ideal.ofBits FTy.f32 841731191#32)

/-- The content weighting of a head with key `key` and strength `beta` over the memory `mem`. -/
def contentWeight (beta : EReal) (key : Fin 64 → EReal) (mem : Fin 1024 → Fin 64 → EReal) (n : Fin 1024) : EReal :=
  smax (fun n => oneplus beta * cosine key (mem n)) n

/-- The product of the entries of `u` that come no later than entry `j` in a stable ascending order. -/
def upTo (u : Fin 1024 → EReal) (j : Fin 1024) : EReal :=
  ∏ i ∈ Finset.univ.filter (fun i => u i < u j ∨ (u i = u j ∧ i ≤ j)), u i

/-- The inputs of one batch row. -/
structure Row where
  x : Fin 2048 → EReal
  wif : Fin 471 → Fin 2048 → EReal
  bias : Fin 471 → EReal
  mem : Fin 1024 → Fin 64 → EReal
  rw : Fin 4 → Fin 1024 → EReal
  wt : Fin 1024 → EReal
  us : Fin 1024 → EReal
  pr : Fin 1024 → EReal
  lm : Fin 1024 → Fin 1024 → EReal

namespace Row

variable (d : Row)

/-- The interface vector. -/
def iv (q : Fin 471) : EReal := ∑ k, d.x k * d.wif q k + d.bias q

/-- What read head `r`'s free gate leaves of location `j`. -/
def kept (r : Fin 4) (j : Fin 1024) : EReal := 1 - sig (d.iv ⟨453 + r, by omega⟩) * d.rw r j

/-- The new usage. -/
def usage (j : Fin 1024) : EReal :=
  (d.us j + d.wt j - d.us j * d.wt j) * (d.kept 0 j * d.kept 1 j * d.kept 2 j * d.kept 3 j)

/-- The allocation weighting. -/
def alloc (j : Fin 1024) : EReal := (1 - d.usage j) * upTo d.usage j

/-- The content weighting of the write head. -/
def content (j : Fin 1024) : EReal := contentWeight (d.iv 324) (fun w => d.iv ⟨260 + w, by omega⟩) d.mem j

/-- The write weighting. -/
def write (j : Fin 1024) : EReal :=
  sig (d.iv 458) * (sig (d.iv 457) * d.alloc j + (1 - sig (d.iv 457)) * d.content j)

/-- The memory after the write. -/
def written (n : Fin 1024) (w : Fin 64) : EReal :=
  d.mem n w * (1 - d.write n * sig (d.iv ⟨325 + w, by omega⟩)) + d.write n * d.iv ⟨389 + w, by omega⟩

/-- The new precedence. -/
def precedence (j : Fin 1024) : EReal := (1 - ∑ k, d.write k) * d.pr j + d.write j

/-- The new link matrix. -/
def link (i j : Fin 1024) : EReal :=
  if i = j then 0 else (1 - d.write i - d.write j) * d.lm i j + d.write i * d.pr j

/-- The forward weighting of read head `r`. -/
def forward (r : Fin 4) (i : Fin 1024) : EReal := ∑ j, d.rw r j * d.link i j

/-- The backward weighting of read head `r`. -/
def backward (r : Fin 4) (i : Fin 1024) : EReal := ∑ j, d.rw r j * d.link j i

/-- The content weighting of read head `r`. -/
def contents (r : Fin 4) (n : Fin 1024) : EReal :=
  contentWeight (d.iv ⟨256 + r, by omega⟩) (fun w => d.iv ⟨64 * r + w, by omega⟩) d.written n

/-- The three read modes of head `r`. -/
def mode (r : Fin 4) (c : Fin 3) : EReal := smax (fun c : Fin 3 => d.iv ⟨459 + 3 * r + c, by omega⟩) c

/-- The read weighting of head `r`. -/
def reads (r : Fin 4) (n : Fin 1024) : EReal :=
  d.mode r 0 * d.backward r n + d.mode r 1 * d.contents r n + d.mode r 2 * d.forward r n

/-- What head `r` reads. -/
def read (r : Fin 4) (w : Fin 64) : EReal := ∑ n, d.reads r n * d.written n w

end Row

end Cert.Dnc

end
-- ==== Proof.Products.lean ====
/- Exponentials of sums of logarithms over the extended reals: the kernel's product of the earlier usages is the
   exponential of a masked sum of logarithms. -/
module

public import proofs.«01_k».proof.Proof.Spec

@[expose] public section

noncomputable section

namespace Cert.Dnc

open Idealize.ShloMosaic

/-- The exponential turns a sum into a product, the infinities included. -/
theorem exp_add (a b : EReal) : Ideal.exp (a + b) = Ideal.exp a * Ideal.exp b := by
  have pos : ∀ r : ℝ, (0 : EReal) < (Real.exp r : EReal) := fun r => by exact_mod_cast Real.exp_pos r
  induction a with
  | bot => simp [EReal.bot_add]
  | top =>
    induction b with
    | bot => simp
    | top => simp
    | coe b => simp [EReal.top_mul_of_pos (pos b)]
  | coe a =>
    induction b with
    | bot => simp
    | top => simp [EReal.mul_top_of_pos (pos a)]
    | coe b =>
      rw [← EReal.coe_add, Ideal.exp_coe, Ideal.exp_coe, Ideal.exp_coe, Real.exp_add, EReal.coe_mul]

/-- The same for a finite sum. -/
theorem exp_sum {ι : Type} (s : Finset ι) (f : ι → EReal) : Ideal.exp (∑ i ∈ s, f i) = ∏ i ∈ s, Ideal.exp (f i) := by
  classical
  induction s using Finset.induction_on with
  | empty =>
    rw [Finset.sum_empty, Finset.prod_empty, ← EReal.coe_zero, Ideal.exp_coe, Real.exp_zero, EReal.coe_one]
  | insert i s hi h => rw [Finset.sum_insert hi, Finset.prod_insert hi, exp_add, h]

/-- The exponential undoes the logarithm of a positive value. -/
theorem exp_log {a : EReal} (h : 0 < a) : Ideal.exp (Ideal.log a) = a := by
  induction a with
  | bot => simp at h
  | top => simp
  | coe r =>
    have hr : 0 < r := by exact_mod_cast h
    rw [Ideal.log_coe, if_neg (not_le.mpr hr), Ideal.exp_coe, Real.exp_log hr]

/-- The kernel's exponent: every entry's logarithm, floored at `ε`, times the mask of the entries that come no later. -/
def maskedLog (ε : EReal) (u : Fin 1024 → EReal) (j : Fin 1024) : EReal :=
  ∑ i, Ideal.log (max (u i) ε) *
    ((if u i < u j then 1 else 0) + (if u i = u j then (if i ≤ j then 1 else 0) else 0))

/-- Where no entry is below the positive floor, the exponential of that exponent is the product of the entries that
    come no later. -/
theorem exp_maskedLog {ε : EReal} (hε : 0 < ε) {u : Fin 1024 → EReal} (hu : ∀ i, ε ≤ u i) (j : Fin 1024) :
    Ideal.exp (maskedLog ε u j) = upTo u j := by
  have h0 : Ideal.exp 0 = 1 := by rw [← EReal.coe_zero, Ideal.exp_coe, Real.exp_zero, EReal.coe_one]
  rw [maskedLog, upTo, exp_sum, Finset.prod_filter]
  refine Finset.prod_congr rfl fun i _ => ?_
  rw [max_eq_left (hu i)]
  by_cases h : u i < u j
  · rw [if_pos h, if_neg h.ne, if_pos (Or.inl h), add_zero, mul_one, exp_log (hε.trans_le (hu i))]
  · by_cases he : u i = u j
    · by_cases hij : i ≤ j
      · rw [if_neg h, if_pos he, if_pos hij, if_pos (Or.inr ⟨he, hij⟩), zero_add, mul_one,
          exp_log (hε.trans_le (hu i))]
      · rw [if_neg h, if_pos he, if_neg hij, if_neg (by tauto), zero_add, mul_zero, h0]
    · rw [if_neg h, if_neg he, if_neg (by tauto), zero_add, mul_zero, h0]

end Cert.Dnc

end
-- ==== Proof.BatchValue.lean ====
/- The kernel's stages for one batch row, read at an index: each is the value of the same name in the mathematics of
   the memory step, where no new usage lies below the kernel's floor. -/
module

public import proofs.«01_k».proof.Proof.Batch
public import proofs.«01_k».proof.Proof.Products

@[expose] public section

set_option maxRecDepth 16384

noncomputable section

namespace Cert.KernelIdeal.Own

open Cert.KernelIdeal Cert.KernelIdeal.Gen Idealize.ShloMosaic Cert.Dnc

namespace Batch

/-- The batch row `b` holds the inputs `d`. -/
structure Holds (b : Batch) (d : Row) : Prop where
  x : ∀ q, b.x (ix2 0 q) = d.x q
  wif : ∀ p q, b.wif (ix2 p q) = d.wif p q
  bias : ∀ q, b.bias (ix2 0 q) = d.bias q
  mem : ∀ n w, b.mem (ix3 0 n w) = d.mem n w
  rw : ∀ r n, b.rw (ix3 0 r n) = d.rw r n
  r0 : ∀ n, b.r0 (ix3 0 0 n) = d.rw 0 n
  r1 : ∀ n, b.r1 (ix3 0 0 n) = d.rw 1 n
  r2 : ∀ n, b.r2 (ix3 0 0 n) = d.rw 2 n
  r3 : ∀ n, b.r3 (ix3 0 0 n) = d.rw 3 n
  wt : ∀ n, b.wt (ix3 0 0 n) = d.wt n
  us : ∀ n, b.us (ix3 0 0 n) = d.us n
  pr : ∀ n, b.pr (ix3 0 0 n) = d.pr n
  triu : ∀ i j, b.triu (ix2 i j) = if i ≤ j then 1 else 0
  lm : ∀ i j, b.lm (ix3 0 i j) = d.lm i j

variable {b : Batch} {d : Row} (h : b.Holds d)
include h

theorem iv_apply (q : Fin 471) : b.iv (ix2 0 q) = d.iv q := by
  pointwise [iv, k0_pay48]
  simp only [h.x, h.wif, h.bias, Row.iv]

theorem usage_apply (j : Fin 1024) : b.usage (ix2 0 j) = d.usage j := by
  have h0 : k0_pay48 b.x b.wif b.bias = b.iv := rfl
  pointwise [usage, k0_pay56, k0_pay50, k0_pay51, k0_pay54, k0_pay53, k0_pay52, k0_pay55]
  simp only [h0, iv_apply h, h.us, h.wt, h.r0, h.r1, h.r2, h.r3]
  rfl

theorem storedUsage_apply (j : Fin 1024) : b.storedUsage (ix3 0 0 j) = d.usage j := by
  pointwise [storedUsage, k0_pay57]
  exact usage_apply h j

theorem logsum_apply (j : Fin 1024) :
    b.logsum (ix2 0 j) = maskedLog (Ideal.ofBits FTy.f32 228737632#32) d.usage j := by
  have hu : ∀ x : Fin 1024, k0_pay56 b.iv (k0_pay50 b.us) (k0_pay51 b.wt)
      (k0_pay54 b.iv k0_pay52 (k0_pay53 b.x b.wif b.bias) b.r0 b.r1) (k0_pay55 b.iv b.r2) b.r3 (ix2 0 x) =
      d.usage x := usage_apply h
  pointwise [logsum, k0_pay58]
  simp only [hu, h.triu]
  rfl

omit h in
/-- The kernel's floor is a positive value. -/
theorem floor_pos : 0 < Ideal.ofBits FTy.f32 228737632#32 := by
  have e : Ideal.ofBits FTy.f32 228737632#32
      = (((1 : ℝ) * (2 ^ 23 + 2245216 : ℕ) * (2 : ℝ) ^ ((27 : ℤ) - 127 - 23) : ℝ) : EReal) := by
    simp [Ideal.ofBits, Ideal.ieee]
  rw [e]
  exact_mod_cast (by positivity : (0 : ℝ) < (1 : ℝ) * (2 ^ 23 + 2245216 : ℕ) * (2 : ℝ) ^ ((27 : ℤ) - 127 - 23))

theorem alloc_apply (hu : ∀ i, Ideal.ofBits FTy.f32 228737632#32 ≤ d.usage i) (j : Fin 1024) :
    b.alloc (ix2 0 j) = d.alloc j := by
  pointwise [alloc, k0_pay59]
  rw [usage_apply h, logsum_apply h, exp_maskedLog floor_pos hu]
  rfl

theorem memory_apply (n : Fin 1024) (w : Fin 64) : b.memory (ix2 n w) = d.mem n w := by
  pointwise [memory, k0_pay49]
  exact h.mem n w

theorem content_apply (j : Fin 1024) : b.content (ix2 0 j) = d.content j := by
  pointwise [content, k0_pay61, k0_pay60]
  simp only [iv_apply h, memory_apply h]
  rfl

/-- Read head `r`'s key, out of the four keys stacked by rows. -/
theorem keys_apply (r : Fin 4) (w : Fin 64) : k0_pay38 b.iv (ix2 r w) = d.iv ⟨64 * r + w, by omega⟩ := by
  pointwise [k0_pay38]
  simp only [← iv_apply h]
  fin_vals r with hr <;> simp only [hr, Nat.reduceSub, Nat.reduceLT, ↓reduceDIte, Nat.mul_zero, Nat.zero_add] <;> rfl

/-- Read head `r`'s mode logits, out of the four triples stacked by rows. -/
theorem logits_apply (r : Fin 4) (c : Fin 3) :
    concatenate S4x3 0 [⟨S1x3, k0_pay76 b.iv⟩, ⟨S1x3, k0_pay77 b.iv⟩,
      ⟨S1x3, extractStridedSlice S1x3 ![0, 465] b.iv slices_S1x471_o0_465_S1x3⟩,
      ⟨S1x3, extractStridedSlice S1x3 ![0, 468] b.iv slices_S1x471_o0_468_S1x3⟩]
      concatenates_S1x3_S1x3_S1x3_S1x3_S4x3_d0 (ix2 r c) = d.iv ⟨459 + 3 * r + c, by omega⟩ := by
  pointwise [k0_pay76, k0_pay77]
  simp only [← iv_apply h]
  fin_vals r with hr <;> simp only [hr, Nat.reduceSub, Nat.reduceLT, ↓reduceDIte, Nat.mul_zero, Nat.zero_add] <;> rfl

variable (hu : ∀ i, Ideal.ofBits FTy.f32 228737632#32 ≤ d.usage i)
include hu

theorem write_apply (j : Fin 1024) : b.write (ix2 0 j) = d.write j := by
  pointwise [write, k0_pay63, k0_pay62]
  rw [alloc_apply h hu, content_apply h, iv_apply h, iv_apply h]
  rfl

theorem column_apply (j : Fin 1024) : b.column (ix2 j 0) = d.write j := by
  rw [← write_apply h hu]
  pointwise [column, k0_pay65]
  rfl

theorem written_apply (n : Fin 1024) (w : Fin 64) : b.written (ix2 n w) = d.written n w := by
  have hc : ∀ n : Fin 1024, k0_pay65 b.iv b.alloc b.content (k0_pay62 b.iv) (ix2 n 0) = d.write n := column_apply h hu
  pointwise [written, k0_pay66]
  simp only [hc, iv_apply h, memory_apply h]
  rfl

theorem precedence_apply (j : Fin 1024) : b.storedPrecedence (ix3 0 0 j) = d.precedence j := by
  pointwise [storedPrecedence, k0_pay69, k0_pay68]
  simp only [write_apply h hu, h.pr]
  rfl

theorem link_apply (i j : Fin 1024) : b.link (ix2 i j) = d.link i j := by
  have e : (BitVec.ofNat 32 i = BitVec.ofNat 32 j) ↔ i = j := by
    rw [← BitVec.toNat_inj, BitVec.toNat_ofNat, BitVec.toNat_ofNat, Fin.ext_iff]
    omega
  pointwise [link, k0_pay70, k0_pay68]
  rw [column_apply h hu, write_apply h hu, h.lm, h.pr, Row.link]
  have e' : (BitVec.ofNat 32 i == BitVec.ofNat 32 j) = decide (i = j) := by
    rw [Bool.eq_iff_iff, beq_iff_eq, decide_eq_true_eq]
    exact e
  by_cases hij : i = j <;> simp [IntOp.cmpi, Scalar.select, e', hij]

theorem forward_apply (r : Fin 4) (i : Fin 1024) : b.forward (ix2 r i) = d.forward r i := by
  pointwise [forward, k0_pay73, k0_pay72]
  simp only [link_apply h hu, h.rw]
  rfl

theorem backward_apply (r : Fin 4) (i : Fin 1024) : b.backward (ix2 r i) = d.backward r i := by
  pointwise [backward, k0_pay74, k0_pay72]
  simp only [link_apply h hu, h.rw]
  rfl

theorem contents_apply (r : Fin 4) (n : Fin 1024) : b.contents (ix2 r n) = d.contents r n := by
  have e : b.contents = k0_pay75 b.iv k0_pay60 b.written := rfl
  unfold k0_pay75 at e
  simp only [show concatenate S4x64 0 [⟨S1x64, extractStridedSlice S1x64 ![0, 0] b.iv slices_S1x471_o0_0_S1x64⟩,
    ⟨S1x64, extractStridedSlice S1x64 ![0, 64] b.iv slices_S1x471_o0_64_S1x64⟩,
    ⟨S1x64, extractStridedSlice S1x64 ![0, 128] b.iv slices_S1x471_o0_128_S1x64⟩,
    ⟨S1x64, extractStridedSlice S1x64 ![0, 192] b.iv slices_S1x471_o0_192_S1x64⟩]
    concatenates_S1x64_S1x64_S1x64_S1x64_S4x64_d0 = k0_pay38 b.iv from rfl] at e
  rw [e]
  pointwise [k0_pay60]
  simp only [keys_apply h, written_apply h hu, iv_apply h]
  rfl

theorem reads_apply (r : Fin 4) (n : Fin 1024) : b.reads (ix2 r n) = d.reads r n := by
  unfold reads k0_pay1
  generalize hm : concatenate S4x3 0 [⟨S1x3, k0_pay76 b.iv⟩, ⟨S1x3, k0_pay77 b.iv⟩,
      ⟨S1x3, extractStridedSlice S1x3 ![0, 465] b.iv slices_S1x471_o0_465_S1x3⟩,
      ⟨S1x3, extractStridedSlice S1x3 ![0, 468] b.iv slices_S1x471_o0_468_S1x3⟩]
      concatenates_S1x3_S1x3_S1x3_S1x3_S4x3_d0 = logits
  have hl : ∀ (r : Fin 4) (c : Fin 3), logits (ix2 r c) = d.iv ⟨459 + 3 * r + c, by omega⟩ := by
    rw [← hm]; exact logits_apply h
  pointwise []
  simp only [hl, forward_apply h hu, backward_apply h hu, contents_apply h hu]
  rfl

theorem storedWrite_apply (j : Fin 1024) : b.storedWrite (ix3 0 0 j) = d.write j := by
  pointwise [storedWrite, k0_pay64]
  exact write_apply h hu j

theorem storedMemory_apply (n : Fin 1024) (w : Fin 64) : b.storedMemory (ix3 0 n w) = d.written n w := by
  pointwise [storedMemory, k0_pay67]
  exact written_apply h hu n w

theorem storedLink_apply (i j : Fin 1024) : b.storedLink (ix3 0 i j) = d.link i j := by
  pointwise [storedLink, k0_pay71]
  exact link_apply h hu i j

theorem storedReads_apply (r : Fin 4) (n : Fin 1024) : b.storedReads (ix3 0 r n) = d.reads r n := by
  pointwise [storedReads, k0_pay2]
  exact reads_apply h hu r n

theorem storedRead_apply (r : Fin 4) (w : Fin 64) : b.storedRead (ix3 0 r w) = d.read r w := by
  have hr : ∀ n, k0_pay1 b.iv b.forward b.backward b.contents (k0_pay76 b.iv) (k0_pay77 b.iv) (ix2 r n) = d.reads r n :=
    reads_apply h hu r
  pointwise [storedRead, k0_pay3]
  simp only [hr, written_apply h hu]
  rfl

end Batch

end Cert.KernelIdeal.Own

end
-- ==== Proof.Blocks.lean ====
/- The kernel's result arrays: what each grid point loads and stores, read at an index of the whole arrays. Grid point
   `t` handles the batch rows `2 t` and `2 t + 1`. -/
module

public import proofs.«01_k».proof.Proof.Gen.KernelIdeal.Value
public import proofs.«01_k».proof.Proof.BatchValue
public import Idealize.ShloMosaic.Lib.Pipeline.ValueKit
public import Idealize.ShloMosaic.Lib.Claim
public import Idealize.ShloMosaic.Lib.StableHlo.ReadAt
public import Idealize.ShloMosaic.Lib.Tactic.WordOmega

@[expose] public section

set_option maxRecDepth 16384

noncomputable section

namespace Cert.KernelIdeal.Own

open Cert.KernelIdeal Cert.KernelIdeal.Gen Idealize.ShloMosaic Idealize.ShloMosaic.TcCoe Idealize.SL.Sem Cert.Dnc

variable (m : (ℓ : Loc nD τ sig) → Buf (Elt Ideal) ℓ) (c : Dev nD)

/-- The inputs of batch row `b`, out of the argument arrays. -/
def rowOf (b : Fin 16) : Row where
  x q := m ((c : Thread nD τ).loc main_arg0) (ix2 b q)
  wif p q := m ((c : Thread nD τ).loc main_arg7) (ix2 p q)
  bias q := m ((c : Thread nD τ).loc main_arg8) (ix1 q)
  mem n w := m ((c : Thread nD τ).loc main_arg1) (ix3 b n w)
  rw r n := m ((c : Thread nD τ).loc main_arg2) (ix3 b r n)
  wt n := m ((c : Thread nD τ).loc main_arg3) (ix2 b n)
  us n := m ((c : Thread nD τ).loc main_arg4) (ix2 b n)
  pr n := m ((c : Thread nD τ).loc main_arg5) (ix2 b n)
  lm i j := m ((c : Thread nD τ).loc main_arg6) (ix3 b i j)

/-- The first batch row of grid point `t`: what it loads. -/
def first (t : Fin cfg0.N) : Batch where
  x := View.ld (iblk m c 0 t) (Rect.unit (k0_off1 (grid0.coords t) 0#32) ![1, 2048] (k0_off1_inb (grid0.coords t) 0))
  wif := iblk m c 1 t
  bias := iblk m c 2 t
  mem := View.ld (iblk m c 3 t) (Rect.unit ![0, 0, 0] ![1, 1024, 64] inb_S2x1024x64_S1x1024x64_0_0_0)
  rw := View.ld (iblk m c 4 t) (Rect.unit ![0, 0, 0] ![1, 4, 1024] inb_S2x4x1024_S1x4x1024_0_0_0)
  r0 := View.ld (iblk m c 4 t) (Rect.unit ![0, 0, 0] ![1, 1, 1024] inb_S2x4x1024_S1x1x1024_0_0_0)
  r1 := View.ld (iblk m c 4 t) (Rect.unit ![0, 1, 0] ![1, 1, 1024] inb_S2x4x1024_S1x1x1024_0_1_0)
  r2 := View.ld (iblk m c 4 t) (Rect.unit ![0, 2, 0] ![1, 1, 1024] inb_S2x4x1024_S1x1x1024_0_2_0)
  r3 := View.ld (iblk m c 4 t) (Rect.unit ![0, 3, 0] ![1, 1, 1024] inb_S2x4x1024_S1x1x1024_0_3_0)
  wt := View.ld (iblk m c 5 t) (Rect.unit ![0, 0, 0] ![1, 1, 1024] inb_S2x1x1024_S1x1x1024_0_0_0)
  us := View.ld (iblk m c 6 t) (Rect.unit ![0, 0, 0] ![1, 1, 1024] inb_S2x1x1024_S1x1x1024_0_0_0)
  pr := View.ld (iblk m c 7 t) (Rect.unit ![0, 0, 0] ![1, 1, 1024] inb_S2x1x1024_S1x1x1024_0_0_0)
  triu := iblk m c 8 t
  lm := View.ld (iblk m c 9 t) (Rect.unit ![0, 0, 0] ![1, 1024, 1024] inb_S2x1024x1024_S1x1024x1024_0_0_0)

/-- The second batch row of grid point `t`. -/
def second (t : Fin cfg0.N) : Batch where
  x := View.ld (iblk m c 0 t) (Rect.unit (k0_off1 (grid0.coords t) 1#32) ![1, 2048] (k0_off1_inb (grid0.coords t) 1))
  wif := iblk m c 1 t
  bias := iblk m c 2 t
  mem := View.ld (iblk m c 3 t) (Rect.unit ![1, 0, 0] ![1, 1024, 64] inb_S2x1024x64_S1x1024x64_1_0_0)
  rw := View.ld (iblk m c 4 t) (Rect.unit ![1, 0, 0] ![1, 4, 1024] inb_S2x4x1024_S1x4x1024_1_0_0)
  r0 := View.ld (iblk m c 4 t) (Rect.unit ![1, 0, 0] ![1, 1, 1024] inb_S2x4x1024_S1x1x1024_1_0_0)
  r1 := View.ld (iblk m c 4 t) (Rect.unit ![1, 1, 0] ![1, 1, 1024] inb_S2x4x1024_S1x1x1024_1_1_0)
  r2 := View.ld (iblk m c 4 t) (Rect.unit ![1, 2, 0] ![1, 1, 1024] inb_S2x4x1024_S1x1x1024_1_2_0)
  r3 := View.ld (iblk m c 4 t) (Rect.unit ![1, 3, 0] ![1, 1, 1024] inb_S2x4x1024_S1x1x1024_1_3_0)
  wt := View.ld (iblk m c 5 t) (Rect.unit ![1, 0, 0] ![1, 1, 1024] inb_S2x1x1024_S1x1x1024_1_0_0)
  us := View.ld (iblk m c 6 t) (Rect.unit ![1, 0, 0] ![1, 1, 1024] inb_S2x1x1024_S1x1x1024_1_0_0)
  pr := View.ld (iblk m c 7 t) (Rect.unit ![1, 0, 0] ![1, 1, 1024] inb_S2x1x1024_S1x1x1024_1_0_0)
  triu := iblk m c 8 t
  lm := View.ld (iblk m c 9 t) (Rect.unit ![1, 0, 0] ![1, 1024, 1024] inb_S2x1024x1024_S1x1024x1024_1_0_0)

theorem point_lt (t : Fin cfg0.N) : t.val < 8 := t.isLt

/-- The windows' block indices at a grid point. -/
theorem index_facts : ∀ t : Fin cfg0.N,
    win0_0.index t = ![0, 0] ∧ win0_1.index t = ![0, 0] ∧ win0_2.index t = ![0, 0] ∧ win0_3.index t = ![t.val, 0, 0]
      ∧ win0_4.index t = ![t.val, 0, 0] ∧ win0_5.index t = ![t.val, 0, 0] ∧ win0_6.index t = ![t.val, 0, 0]
      ∧ win0_7.index t = ![t.val, 0, 0] ∧ win0_8.index t = ![0, 0] ∧ win0_9.index t = ![t.val, 0, 0]
      ∧ k0_off1 (grid0.coords t) 0#32 = ![2 * t.val, 0] ∧ k0_off1 (grid0.coords t) 1#32 = ![2 * t.val + 1, 0] :=
  (by decide +kernel : ∀ t : Fin grid0.N, _)

variable (t : Fin cfg0.N)

/-- The batch row `2 t + k`, the `k`-th of grid point `t`. -/
def rowAt (k : Fin 2) : Fin 16 := ⟨2 * t.val + k.val, by have := point_lt t; omega⟩

/-- What a host operation before the region leaves in its result, at an index. -/
theorem entry0 (q : Fin 471) : V m c main_v0 (ix2 0 q) = m ((c : Thread nD τ).loc main_arg8) (ix1 q) := by
  simp only [V, hostOps0, hostOps0_1, List.flatten_cons, List.flatten_nil, List.append_nil, List.cons_append, List.nil_append]
  after_reads_at

theorem entry1 (b : Fin 16) (n : Fin 1024) :
    V m c main_v1 (ix3 b 0 n) = m ((c : Thread nD τ).loc main_arg3) (ix2 b n) := by
  simp only [V, hostOps0, hostOps0_1, List.flatten_cons, List.flatten_nil, List.append_nil, List.cons_append, List.nil_append]
  after_reads_at

theorem entry2 (b : Fin 16) (n : Fin 1024) :
    V m c main_v2 (ix3 b 0 n) = m ((c : Thread nD τ).loc main_arg4) (ix2 b n) := by
  simp only [V, hostOps0, hostOps0_1, List.flatten_cons, List.flatten_nil, List.append_nil, List.cons_append, List.nil_append]
  after_reads_at

theorem entry3 (b : Fin 16) (n : Fin 1024) :
    V m c main_v3 (ix3 b 0 n) = m ((c : Thread nD τ).loc main_arg5) (ix2 b n) := by
  simp only [V, hostOps0, hostOps0_1, List.flatten_cons, List.flatten_nil, List.append_nil, List.cons_append, List.nil_append]
  after_reads_at

theorem entry5 (i j : Fin 1024) : V m c main_v5 (ix2 i j) = if i ≤ j then (1 : EReal) else 0 := by
  simp only [V, hostOps0, hostOps0_1, List.flatten_cons, List.flatten_nil, List.append_nil, List.cons_append, List.nil_append]
  after_reads_at
  by_cases hij : i ≤ j
  · have hn : i.val ≤ j.val := hij
    have h : IntOp.cmpi CmpIPredicate.sge (IntOp.addi (BitVec.ofNat 32 i.val) 4294967295#32) (BitVec.ofNat 32 j.val)
        = 0#1 := by word_omega
    rw [h, if_pos hij]; rfl
  · have hn : j.val < i.val := not_le.mp hij
    have h : IntOp.cmpi CmpIPredicate.sge (IntOp.addi (BitVec.ofNat 32 i.val) 4294967295#32) (BitVec.ofNat 32 j.val)
        = 1#1 := by word_omega
    rw [h, if_neg hij]; rfl

theorem block0 (b : Fin 16) (q : Fin 2048) :
    iblk m c 0 t (ix2 b q) = m ((c : Thread nD τ).loc main_arg0) (ix2 b q) := by
  blk_ext [iblk, V, index_facts t]

theorem block1 (p : Fin 471) (q : Fin 2048) :
    iblk m c 1 t (ix2 p q) = m ((c : Thread nD τ).loc main_arg7) (ix2 p q) := by
  blk_ext [iblk, V, index_facts t]

theorem block2 (q : Fin 471) : iblk m c 2 t (ix2 0 q) = m ((c : Thread nD τ).loc main_arg8) (ix1 q) :=
  (congrArg (V m c main_v0) (show (win0_2.blk t).view.emb (ix2 0 q) = ix2 0 q by blk_ext [index_facts t])).trans
    (entry0 m c q)

theorem block3 (k : Fin 2) (n : Fin 1024) (w : Fin 64) :
    iblk m c 3 t (ix3 k n w) = m ((c : Thread nD τ).loc main_arg1) (ix3 (rowAt t k) n w) := by
  blk_ext [iblk, V, index_facts t, rowAt]

theorem block4 (k : Fin 2) (r : Fin 4) (n : Fin 1024) :
    iblk m c 4 t (ix3 k r n) = m ((c : Thread nD τ).loc main_arg2) (ix3 (rowAt t k) r n) := by
  blk_ext [iblk, V, index_facts t, rowAt]

theorem block5 (k : Fin 2) (n : Fin 1024) :
    iblk m c 5 t (ix3 k 0 n) = m ((c : Thread nD τ).loc main_arg3) (ix2 (rowAt t k) n) :=
  (congrArg (V m c main_v1)
    (show (win0_5.blk t).view.emb (ix3 k 0 n) = ix3 (rowAt t k) 0 n by blk_ext [index_facts t, rowAt])).trans
    (entry1 m c _ n)

theorem block6 (k : Fin 2) (n : Fin 1024) :
    iblk m c 6 t (ix3 k 0 n) = m ((c : Thread nD τ).loc main_arg4) (ix2 (rowAt t k) n) :=
  (congrArg (V m c main_v2)
    (show (win0_6.blk t).view.emb (ix3 k 0 n) = ix3 (rowAt t k) 0 n by blk_ext [index_facts t, rowAt])).trans
    (entry2 m c _ n)

theorem block7 (k : Fin 2) (n : Fin 1024) :
    iblk m c 7 t (ix3 k 0 n) = m ((c : Thread nD τ).loc main_arg5) (ix2 (rowAt t k) n) :=
  (congrArg (V m c main_v3)
    (show (win0_7.blk t).view.emb (ix3 k 0 n) = ix3 (rowAt t k) 0 n by blk_ext [index_facts t, rowAt])).trans
    (entry3 m c _ n)

theorem read8 (X : S1024x1024.Idx → EReal) (i j : Fin 1024) :
    ((cfg0.win 8).blk t).view.read (Elt Ideal) X (ix2 i j) = X (ix2 i j) := by
  blk_ext [index_facts t]

theorem block8 (i j : Fin 1024) : iblk m c 8 t (ix2 i j) = if i ≤ j then (1 : EReal) else 0 := by
  unfold iblk
  rw [← entry5 m c i j]
  exact read8 t (V m c main_v5) i j

theorem block9 (k : Fin 2) (i j : Fin 1024) :
    iblk m c 9 t (ix3 k i j) = m ((c : Thread nD τ).loc main_arg6) (ix3 (rowAt t k) i j) := by
  blk_ext [iblk, V, index_facts t, rowAt]

/-- A load at an index: the place it reads. -/
theorem ld_eq {S : Shape} (X : S.Idx → Elt Ideal .f32) (r : Rect S) (x : r.shape.Idx) (y : S.Idx) {v : EReal}
    (h : ∀ a, r.off a + r.stride a * (x a).val = (y a).val) (hv : X y = v) : View.ld X r x = v :=
  (congrArg X (funext fun a => Fin.ext (h a))).trans hv

theorem first_holds : (first m c t).Holds (rowOf m c (rowAt t 0)) where
  x q := by
    have h0 : k0_off1 (grid0.coords t) 0#32 = ![2 * t.val + 0, 0] := by simp only [index_facts t, Nat.add_zero]
    dsimp only [first, rowOf]
    exact ld_eq _ _ _ (ix2 (rowAt t 0) q) (fun a => by fin_cases a <;> simp [Rect.unit, h0, rowAt]) (block0 m c t _ q)
  wif p q := by dsimp only [first, rowOf]; exact block1 m c t p q
  bias q := by dsimp only [first, rowOf]; exact block2 m c t q
  mem n w := by
    dsimp only [first, rowOf]
    exact ld_eq _ _ _ (ix3 0 n w) (fun a => by fin_cases a <;> simp [Rect.unit]) (block3 m c t 0 n w)
  rw r n := by
    dsimp only [first, rowOf]
    exact ld_eq _ _ _ (ix3 0 r n) (fun a => by fin_cases a <;> simp [Rect.unit]) (block4 m c t 0 r n)
  r0 n := by
    dsimp only [first, rowOf]
    exact ld_eq _ _ _ (ix3 0 0 n) (fun a => by fin_cases a <;> simp [Rect.unit]) (block4 m c t 0 0 n)
  r1 n := by
    dsimp only [first, rowOf]
    exact ld_eq _ _ _ (ix3 0 1 n) (fun a => by fin_cases a <;> simp [Rect.unit]) (block4 m c t 0 1 n)
  r2 n := by
    dsimp only [first, rowOf]
    exact ld_eq _ _ _ (ix3 0 2 n) (fun a => by fin_cases a <;> simp [Rect.unit]) (block4 m c t 0 2 n)
  r3 n := by
    dsimp only [first, rowOf]
    exact ld_eq _ _ _ (ix3 0 3 n) (fun a => by fin_cases a <;> simp [Rect.unit]) (block4 m c t 0 3 n)
  wt n := by
    dsimp only [first, rowOf]
    exact ld_eq _ _ _ (ix3 0 0 n) (fun a => by fin_cases a <;> simp [Rect.unit]) (block5 m c t 0 n)
  us n := by
    dsimp only [first, rowOf]
    exact ld_eq _ _ _ (ix3 0 0 n) (fun a => by fin_cases a <;> simp [Rect.unit]) (block6 m c t 0 n)
  pr n := by
    dsimp only [first, rowOf]
    exact ld_eq _ _ _ (ix3 0 0 n) (fun a => by fin_cases a <;> simp [Rect.unit]) (block7 m c t 0 n)
  lm i j := by
    dsimp only [first, rowOf]
    exact ld_eq _ _ _ (ix3 0 i j) (fun a => by fin_cases a <;> simp [Rect.unit]) (block9 m c t 0 i j)
  triu i j := by dsimp only [first]; exact block8 m c t i j

theorem second_holds : (second m c t).Holds (rowOf m c (rowAt t 1)) where
  x q := by
    have h0 : k0_off1 (grid0.coords t) 1#32 = ![2 * t.val + 1, 0] := by simp only [index_facts t, Nat.add_zero]
    dsimp only [second, rowOf]
    exact ld_eq _ _ _ (ix2 (rowAt t 1) q) (fun a => by fin_cases a <;> simp [Rect.unit, h0, rowAt]) (block0 m c t _ q)
  wif p q := by dsimp only [second, rowOf]; exact block1 m c t p q
  bias q := by dsimp only [second, rowOf]; exact block2 m c t q
  mem n w := by
    dsimp only [second, rowOf]
    exact ld_eq _ _ _ (ix3 1 n w) (fun a => by fin_cases a <;> simp [Rect.unit]) (block3 m c t 1 n w)
  rw r n := by
    dsimp only [second, rowOf]
    exact ld_eq _ _ _ (ix3 1 r n) (fun a => by fin_cases a <;> simp [Rect.unit]) (block4 m c t 1 r n)
  r0 n := by
    dsimp only [second, rowOf]
    exact ld_eq _ _ _ (ix3 1 0 n) (fun a => by fin_cases a <;> simp [Rect.unit]) (block4 m c t 1 0 n)
  r1 n := by
    dsimp only [second, rowOf]
    exact ld_eq _ _ _ (ix3 1 1 n) (fun a => by fin_cases a <;> simp [Rect.unit]) (block4 m c t 1 1 n)
  r2 n := by
    dsimp only [second, rowOf]
    exact ld_eq _ _ _ (ix3 1 2 n) (fun a => by fin_cases a <;> simp [Rect.unit]) (block4 m c t 1 2 n)
  r3 n := by
    dsimp only [second, rowOf]
    exact ld_eq _ _ _ (ix3 1 3 n) (fun a => by fin_cases a <;> simp [Rect.unit]) (block4 m c t 1 3 n)
  wt n := by
    dsimp only [second, rowOf]
    exact ld_eq _ _ _ (ix3 1 0 n) (fun a => by fin_cases a <;> simp [Rect.unit]) (block5 m c t 1 n)
  us n := by
    dsimp only [second, rowOf]
    exact ld_eq _ _ _ (ix3 1 0 n) (fun a => by fin_cases a <;> simp [Rect.unit]) (block6 m c t 1 n)
  pr n := by
    dsimp only [second, rowOf]
    exact ld_eq _ _ _ (ix3 1 0 n) (fun a => by fin_cases a <;> simp [Rect.unit]) (block7 m c t 1 n)
  lm i j := by
    dsimp only [second, rowOf]
    exact ld_eq _ _ _ (ix3 1 i j) (fun a => by fin_cases a <;> simp [Rect.unit]) (block9 m c t 1 i j)
  triu i j := by dsimp only [second]; exact block8 m c t i j

end Cert.KernelIdeal.Own

end
-- ==== Proof.Arrays.lean ====
/- The kernel's seven result arrays, each at an index. The body treats its two batch rows with the same operations; the
   first part says so, stage by stage, and the rest reads the stores of both rows off `Batch`. -/
module

public import proofs.«01_k».proof.Proof.Gen.KernelIdeal.Value
public import proofs.«01_k».proof.Proof.Blocks
public import Idealize.ShloMosaic.Lib.Pipeline.ValueKit
public import Idealize.ShloMosaic.Lib.Claim
public import Idealize.ShloMosaic.Lib.StableHlo.ReadAt
public import Idealize.ShloMosaic.Lib.Tactic.WordOmega

@[expose] public section

set_option maxRecDepth 16384

noncomputable section

namespace Cert.KernelIdeal.Own

open Cert.KernelIdeal Cert.KernelIdeal.Gen Idealize.ShloMosaic Idealize.ShloMosaic.TcCoe Idealize.SL.Sem Cert.Dnc

section Stages

variable (x : Vec Ideal S1x2048 .f32) (wif : Vec Ideal S471x2048 .f32) (bias : Vec Ideal S1x471 .f32)
  (memory : Vec Ideal S1x1024x64 .f32) (rw : Vec Ideal S1x4x1024 .f32) (r0 r1 r2 r3 wt us pr : Vec Ideal S1x1x1024 .f32)
  (triu : Vec Ideal S1024x1024 .f32) (lm : Vec Ideal S1x1024x1024 .f32) (iv : FVec Ideal S1x471 .f32)
  (mem written : FVec Ideal S1024x64 .f32) (content alloc write : FVec Ideal S1x1024 .f32)
  (column : FVec Ideal S1024x1 .f32) (forward backward : FVec Ideal S4x1024 .f32)

theorem stage_iv : k0_pay4 (F := Ideal) x wif bias = k0_pay48 x wif bias := rfl
theorem stage_mem : k0_pay5 (F := Ideal) memory = k0_pay49 memory := rfl
theorem stage_us : k0_pay6 (F := Ideal) us = k0_pay50 us := rfl
theorem stage_wt : k0_pay7 (F := Ideal) wt = k0_pay51 wt := rfl
theorem stage_usage : k0_pay14 (F := Ideal) (k0_pay50 us) (k0_pay51 wt) (k0_pay11 (k0_pay48 x wif bias) (k0_pay8 x wif bias r0) (k0_pay9 x wif bias) k0_pay10 r1 r2) (k0_pay12 (k0_pay48 x wif bias) r3)
      (FloatOps.ofBits FTy.f32 1065353216#32)
    = k0_pay57 (k0_pay48 x wif bias) (k0_pay50 us) (k0_pay51 wt) (k0_pay54 (k0_pay48 x wif bias) k0_pay52 (k0_pay53 x wif bias) r0 r1) (k0_pay55 (k0_pay48 x wif bias) r2) r3 := rfl
theorem stage_alloc : k0_pay15 (F := Ideal) (k0_pay50 us) (k0_pay51 wt) (k0_pay11 (k0_pay48 x wif bias) (k0_pay8 x wif bias r0) (k0_pay9 x wif bias) k0_pay10 r1 r2) (k0_pay12 (k0_pay48 x wif bias) r3)
      (FloatOps.ofBits FTy.f32 1065353216#32) triu
    = k0_pay59 (k0_pay56 (k0_pay48 x wif bias) (k0_pay50 us) (k0_pay51 wt) (k0_pay54 (k0_pay48 x wif bias) k0_pay52 (k0_pay53 x wif bias) r0 r1) (k0_pay55 (k0_pay48 x wif bias) r2) r3)
        (k0_pay58 (k0_pay48 x wif bias) (k0_pay50 us) (k0_pay51 wt) (k0_pay54 (k0_pay48 x wif bias) k0_pay52 (k0_pay53 x wif bias) r0 r1) (k0_pay55 (k0_pay48 x wif bias) r2) r3 triu) := rfl
theorem stage_content : k0_pay21 (F := Ideal) iv (k0_pay17 iv mem) (k0_pay19 mem) (k0_pay20 iv) = k0_pay61 iv mem := rfl
theorem stage_write : k0_pay25 (F := Ideal) content (k0_pay22 iv) (k0_pay23 iv) (k0_pay24 iv alloc) (FloatOps.ofBits FTy.f32 1065353216#32)
    = k0_pay63 iv alloc content (k0_pay62 iv) := rfl
theorem stage_storedWrite :
    k0_pay26 (F := Ideal) content (k0_pay22 iv) (k0_pay23 iv) (k0_pay24 iv alloc) (FloatOps.ofBits FTy.f32 1065353216#32)
    = k0_pay64 iv alloc content (k0_pay62 iv) := rfl
theorem stage_column : k0_pay27 (F := Ideal) content (k0_pay22 iv) (k0_pay23 iv) (k0_pay24 iv alloc) (FloatOps.ofBits FTy.f32 1065353216#32)
    = k0_pay65 iv alloc content (k0_pay62 iv) := rfl
theorem stage_written :
    k0_pay28 (F := Ideal) iv mem content (k0_pay22 iv) (k0_pay23 iv) (k0_pay24 iv alloc) (FloatOps.ofBits FTy.f32 1065353216#32)
    = k0_pay66 iv mem alloc content (k0_pay62 iv) := rfl
theorem stage_storedMemory :
    k0_pay29 (F := Ideal) iv mem content (k0_pay22 iv) (k0_pay23 iv) (k0_pay24 iv alloc) (FloatOps.ofBits FTy.f32 1065353216#32)
    = k0_pay67 (k0_pay66 iv mem alloc content (k0_pay62 iv)) := rfl
theorem stage_precedence :
    k0_pay32 (F := Ideal) (k0_pay31 content (k0_pay22 iv) (k0_pay23 iv) (k0_pay24 iv alloc) (FloatOps.ofBits FTy.f32 1065353216#32) pr)
    = k0_pay69 (k0_pay63 iv alloc content (k0_pay62 iv)) pr := rfl
theorem stage_link : k0_pay34 (F := Ideal) write column (k0_pay30 pr) lm = k0_pay71 write column pr lm := rfl
theorem stage_forward : k0_pay36 (F := Ideal) write column (k0_pay30 pr) lm rw = k0_pay73 (k0_pay70 write column pr lm) (k0_pay72 rw) := rfl
theorem stage_backward : k0_pay37 (F := Ideal) write column (k0_pay30 pr) lm rw = k0_pay74 (k0_pay70 write column pr lm) (k0_pay72 rw) := rfl
theorem stage_reads :
    k0_pay46 (F := Ideal) forward (k0_pay42 iv) (k0_pay43 iv backward) (k0_pay44 iv (k0_pay39 iv written) (k0_pay40 k0_pay18 written) (k0_pay41 iv))
    = k0_pay2 iv forward backward (k0_pay75 iv k0_pay60 written) (k0_pay76 iv) (k0_pay77 iv) := rfl
theorem stage_read :
    k0_pay47 (F := Ideal) written forward (k0_pay42 iv) (k0_pay43 iv backward) (k0_pay44 iv (k0_pay39 iv written) (k0_pay40 k0_pay18 written) (k0_pay41 iv))
    = k0_pay3 iv written forward backward (k0_pay75 iv k0_pay60 written) (k0_pay76 iv) (k0_pay77 iv) := rfl

end Stages

variable (m : (ℓ : Loc nD τ sig) → Buf (Elt Ideal) ℓ) (c : Dev nD)

/-- The result windows' block indices at a grid point. -/
theorem result_index : ∀ t : Fin cfg0.N,
    win0_10.index t = ![t.val, 0, 0] ∧ win0_11.index t = ![t.val, 0, 0] ∧ win0_12.index t = ![t.val, 0, 0]
      ∧ win0_13.index t = ![t.val, 0, 0] ∧ win0_14.index t = ![t.val, 0, 0] ∧ win0_15.index t = ![t.val, 0, 0]
      ∧ win0_16.index t = ![t.val, 0, 0] :=
  (by decide +kernel : ∀ t : Fin grid0.N, _)

/-- The usage after the step. -/
theorem array14 :
    (dats m 0 c).arrAt 14 cfg0.N = fun j => (rowOf m c (j 0)).usage (j 2) := by
  refine (dats m 0 c).arrAt_eq_of_covers 14 _ (by decide +kernel) fun t hf i => ?_
  rw [after0_14]; dsimp only [outsAt0]; frame_out
  canon_tiles y h
  · have hy : y = ix3 (n0 := 1) (n1 := 1) (n2 := 1024) 0 0 (y 2) := by blk_ext []
    have h0' : (i 0).val = 1 + (y 0).val := h0
    have h1' : (i 1).val = (y 1).val := h1
    have h2' : (i 2).val = (y 2).val := h2
    have hE : ((cfg0.win 14).blk t).view.emb i = ix3 (rowAt t 1) 0 (y 2) := by
      blk_ext [result_index t, rowAt]
    have key := Batch.storedUsage_apply (second_holds m c t) (y 2)
    dsimp only [Batch.storedUsage, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x1x1024.Idx => (rowOf m c (j 0)).usage (j 2)) hE).symm
  · have hy : y = ix3 (n0 := 1) (n1 := 1) (n2 := 1024) 0 0 (y 2) := by blk_ext []
    have h0' : (i 0).val = (y 0).val := h0
    have h1' : (i 1).val = (y 1).val := h1
    have h2' : (i 2).val = (y 2).val := h2
    have hE : ((cfg0.win 14).blk t).view.emb i = ix3 (rowAt t 0) 0 (y 2) := by
      blk_ext [result_index t, rowAt]
    have key := Batch.storedUsage_apply (first_holds m c t) (y 2)
    dsimp only [Batch.storedUsage, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_usage]
    refine key.trans ?_
    exact (congrArg (fun j : S16x1x1024.Idx => (rowOf m c (j 0)).usage (j 2)) hE).symm

/-- The write weighting. -/
theorem array13
    (hu : ∀ b i, Ideal.ofBits FTy.f32 228737632#32 ≤ (rowOf m c b).usage i) :
    (dats m 0 c).arrAt 13 cfg0.N = fun j => (rowOf m c (j 0)).write (j 2) := by
  refine (dats m 0 c).arrAt_eq_of_covers 13 _ (by decide +kernel) fun t hf i => ?_
  rw [after0_13]; dsimp only [outsAt0]; frame_out
  canon_tiles y h
  · have hy : y = ix3 (n0 := 1) (n1 := 1) (n2 := 1024) 0 0 (y 2) := by blk_ext []
    have h0' : (i 0).val = 1 + (y 0).val := h0
    have h1' : (i 1).val = (y 1).val := h1
    have h2' : (i 2).val = (y 2).val := h2
    have hE : ((cfg0.win 13).blk t).view.emb i = ix3 (rowAt t 1) 0 (y 2) := by
      blk_ext [result_index t, rowAt]
    have key := Batch.storedWrite_apply (second_holds m c t) (hu _) (y 2)
    dsimp only [Batch.storedWrite, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x1x1024.Idx => (rowOf m c (j 0)).write (j 2)) hE).symm
  · have hy : y = ix3 (n0 := 1) (n1 := 1) (n2 := 1024) 0 0 (y 2) := by blk_ext []
    have h0' : (i 0).val = (y 0).val := h0
    have h1' : (i 1).val = (y 1).val := h1
    have h2' : (i 2).val = (y 2).val := h2
    have hE : ((cfg0.win 13).blk t).view.emb i = ix3 (rowAt t 0) 0 (y 2) := by
      blk_ext [result_index t, rowAt]
    have key := Batch.storedWrite_apply (first_holds m c t) (hu _) (y 2)
    dsimp only [Batch.storedWrite, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_storedWrite]
    refine key.trans ?_
    exact (congrArg (fun j : S16x1x1024.Idx => (rowOf m c (j 0)).write (j 2)) hE).symm

/-- The memory after the write. -/
theorem array11
    (hu : ∀ b i, Ideal.ofBits FTy.f32 228737632#32 ≤ (rowOf m c b).usage i) :
    (dats m 0 c).arrAt 11 cfg0.N = fun j => (rowOf m c (j 0)).written (j 1) (j 2) := by
  refine (dats m 0 c).arrAt_eq_of_covers 11 _ (by decide +kernel) fun t hf i => ?_
  rw [after0_11]; dsimp only [outsAt0]; frame_out
  canon_tiles y h
  · have hy : y = ix3 (n0 := 1) (n1 := 1024) (n2 := 64) 0 (y 1) (y 2) := by blk_ext []
    have h0' : (i 0).val = 1 + (y 0).val := h0
    have h1' : (i 1).val = (y 1).val := h1
    have h2' : (i 2).val = (y 2).val := h2
    have hE : ((cfg0.win 11).blk t).view.emb i = ix3 (rowAt t 1) (y 1) (y 2) := by
      blk_ext [result_index t, rowAt]
    have key := Batch.storedMemory_apply (second_holds m c t) (hu _) (y 1) (y 2)
    dsimp only [Batch.storedMemory, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x1024x64.Idx => (rowOf m c (j 0)).written (j 1) (j 2)) hE).symm
  · have hy : y = ix3 (n0 := 1) (n1 := 1024) (n2 := 64) 0 (y 1) (y 2) := by blk_ext []
    have h0' : (i 0).val = (y 0).val := h0
    have h1' : (i 1).val = (y 1).val := h1
    have h2' : (i 2).val = (y 2).val := h2
    have hE : ((cfg0.win 11).blk t).view.emb i = ix3 (rowAt t 0) (y 1) (y 2) := by
      blk_ext [result_index t, rowAt]
    have key := Batch.storedMemory_apply (first_holds m c t) (hu _) (y 1) (y 2)
    dsimp only [Batch.storedMemory, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_storedMemory]
    refine key.trans ?_
    exact (congrArg (fun j : S16x1024x64.Idx => (rowOf m c (j 0)).written (j 1) (j 2)) hE).symm

/-- The precedence weighting. -/
theorem array15
    (hu : ∀ b i, Ideal.ofBits FTy.f32 228737632#32 ≤ (rowOf m c b).usage i) :
    (dats m 0 c).arrAt 15 cfg0.N = fun j => (rowOf m c (j 0)).precedence (j 2) := by
  refine (dats m 0 c).arrAt_eq_of_covers 15 _ (by decide +kernel) fun t hf i => ?_
  rw [after0_15]; dsimp only [outsAt0]; frame_out
  canon_tiles y h
  · have hy : y = ix3 (n0 := 1) (n1 := 1) (n2 := 1024) 0 0 (y 2) := by blk_ext []
    have h0' : (i 0).val = 1 + (y 0).val := h0
    have h1' : (i 1).val = (y 1).val := h1
    have h2' : (i 2).val = (y 2).val := h2
    have hE : ((cfg0.win 15).blk t).view.emb i = ix3 (rowAt t 1) 0 (y 2) := by
      blk_ext [result_index t, rowAt]
    have key := Batch.precedence_apply (second_holds m c t) (hu _) (y 2)
    dsimp only [Batch.storedPrecedence, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x1x1024.Idx => (rowOf m c (j 0)).precedence (j 2)) hE).symm
  · have hy : y = ix3 (n0 := 1) (n1 := 1) (n2 := 1024) 0 0 (y 2) := by blk_ext []
    have h0' : (i 0).val = (y 0).val := h0
    have h1' : (i 1).val = (y 1).val := h1
    have h2' : (i 2).val = (y 2).val := h2
    have hE : ((cfg0.win 15).blk t).view.emb i = ix3 (rowAt t 0) 0 (y 2) := by
      blk_ext [result_index t, rowAt]
    have key := Batch.precedence_apply (first_holds m c t) (hu _) (y 2)
    dsimp only [Batch.storedPrecedence, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_precedence]
    refine key.trans ?_
    exact (congrArg (fun j : S16x1x1024.Idx => (rowOf m c (j 0)).precedence (j 2)) hE).symm

/-- The link matrix. -/
theorem array16
    (hu : ∀ b i, Ideal.ofBits FTy.f32 228737632#32 ≤ (rowOf m c b).usage i) :
    (dats m 0 c).arrAt 16 cfg0.N = fun j => (rowOf m c (j 0)).link (j 1) (j 2) := by
  refine (dats m 0 c).arrAt_eq_of_covers 16 _ (by decide +kernel) fun t hf i => ?_
  rw [after0_16]; dsimp only [outsAt0]; frame_out
  canon_tiles y h
  · have hy : y = ix3 (n0 := 1) (n1 := 1024) (n2 := 1024) 0 (y 1) (y 2) := by blk_ext []
    have h0' : (i 0).val = 1 + (y 0).val := h0
    have h1' : (i 1).val = (y 1).val := h1
    have h2' : (i 2).val = (y 2).val := h2
    have hE : ((cfg0.win 16).blk t).view.emb i = ix3 (rowAt t 1) (y 1) (y 2) := by
      blk_ext [result_index t, rowAt]
    have key := Batch.storedLink_apply (second_holds m c t) (hu _) (y 1) (y 2)
    dsimp only [Batch.storedLink, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x1024x1024.Idx => (rowOf m c (j 0)).link (j 1) (j 2)) hE).symm
  · have hy : y = ix3 (n0 := 1) (n1 := 1024) (n2 := 1024) 0 (y 1) (y 2) := by blk_ext []
    have h0' : (i 0).val = (y 0).val := h0
    have h1' : (i 1).val = (y 1).val := h1
    have h2' : (i 2).val = (y 2).val := h2
    have hE : ((cfg0.win 16).blk t).view.emb i = ix3 (rowAt t 0) (y 1) (y 2) := by
      blk_ext [result_index t, rowAt]
    have key := Batch.storedLink_apply (first_holds m c t) (hu _) (y 1) (y 2)
    dsimp only [Batch.storedLink, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_write, stage_column, stage_link]
    refine key.trans ?_
    exact (congrArg (fun j : S16x1024x1024.Idx => (rowOf m c (j 0)).link (j 1) (j 2)) hE).symm

/-- The read weightings. -/
theorem array12
    (hu : ∀ b i, Ideal.ofBits FTy.f32 228737632#32 ≤ (rowOf m c b).usage i) :
    (dats m 0 c).arrAt 12 cfg0.N = fun j => (rowOf m c (j 0)).reads (j 1) (j 2) := by
  refine (dats m 0 c).arrAt_eq_of_covers 12 _ (by decide +kernel) fun t hf i => ?_
  rw [after0_12]; dsimp only [outsAt0]; frame_out
  canon_tiles y h
  · have hy : y = ix3 (n0 := 1) (n1 := 4) (n2 := 1024) 0 (y 1) (y 2) := by blk_ext []
    have h0' : (i 0).val = 1 + (y 0).val := h0
    have h1' : (i 1).val = (y 1).val := h1
    have h2' : (i 2).val = (y 2).val := h2
    have hE : ((cfg0.win 12).blk t).view.emb i = ix3 (rowAt t 1) (y 1) (y 2) := by
      blk_ext [result_index t, rowAt]
    have key := Batch.storedReads_apply (second_holds m c t) (hu _) (y 1) (y 2)
    dsimp only [Batch.storedReads, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x4x1024.Idx => (rowOf m c (j 0)).reads (j 1) (j 2)) hE).symm
  · have hy : y = ix3 (n0 := 1) (n1 := 4) (n2 := 1024) 0 (y 1) (y 2) := by blk_ext []
    have h0' : (i 0).val = (y 0).val := h0
    have h1' : (i 1).val = (y 1).val := h1
    have h2' : (i 2).val = (y 2).val := h2
    have hE : ((cfg0.win 12).blk t).view.emb i = ix3 (rowAt t 0) (y 1) (y 2) := by
      blk_ext [result_index t, rowAt]
    have key := Batch.storedReads_apply (first_holds m c t) (hu _) (y 1) (y 2)
    dsimp only [Batch.storedReads, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_write, stage_column, stage_forward, stage_backward, stage_written, stage_reads]
    refine key.trans ?_
    exact (congrArg (fun j : S16x4x1024.Idx => (rowOf m c (j 0)).reads (j 1) (j 2)) hE).symm

/-- The vectors read. -/
theorem array10
    (hu : ∀ b i, Ideal.ofBits FTy.f32 228737632#32 ≤ (rowOf m c b).usage i) :
    (dats m 0 c).arrAt 10 cfg0.N = fun j => (rowOf m c (j 0)).read (j 1) (j 2) := by
  refine (dats m 0 c).arrAt_eq_of_covers 10 _ (by decide +kernel) fun t hf i => ?_
  rw [after0_10]; dsimp only [outsAt0]; frame_out
  canon_tiles y h
  · have hy : y = ix3 (n0 := 1) (n1 := 4) (n2 := 64) 0 (y 1) (y 2) := by blk_ext []
    have h0' : (i 0).val = 1 + (y 0).val := h0
    have h1' : (i 1).val = (y 1).val := h1
    have h2' : (i 2).val = (y 2).val := h2
    have hE : ((cfg0.win 10).blk t).view.emb i = ix3 (rowAt t 1) (y 1) (y 2) := by
      blk_ext [result_index t, rowAt]
    have key := Batch.storedRead_apply (second_holds m c t) (hu _) (y 1) (y 2)
    dsimp only [Batch.storedRead, Batch.reads, Batch.contents, Batch.backward, Batch.forward, Batch.link, Batch.written, Batch.column,
      Batch.write, Batch.content, Batch.alloc, Batch.logsum, Batch.usage, Batch.memory, Batch.iv, second] at key
    rw [hy]
    refine key.trans ?_
    exact (congrArg (fun j : S16x4x64.Idx => (rowOf m c (j 0)).read (j 1) (j 2)) hE).symm
  · have hy : y = ix3 (n0 := 1) (n1 := 4) (n2 := 64) 0 (y 1) (y 2) := by blk_ext []
    have h0' : (i 0).val = (y 0).val := h0
    have h1' : (i 1).val = (y 1).val := h1
    have h2' : (i 2).val = (y 2).val := h2
    have hE : ((cfg0.win 10).blk t).view.emb i = ix3 (rowAt t 0) (y 1) (y 2) := by
      blk_ext [result_index t, rowAt]
    have key := Batch.storedRead_apply (first_holds m c t) (hu _) (y 1) (y 2)
    dsimp only [Batch.storedRead, Batch.reads, Batch.contents, Batch.backward, Batch.forward, Batch.link, Batch.written, Batch.column,
      Batch.write, Batch.content, Batch.alloc, Batch.logsum, Batch.usage, Batch.memory, Batch.iv, first] at key
    rw [hy]
    simp only [stage_iv, stage_mem, stage_us, stage_wt, stage_alloc, stage_content, stage_write, stage_column, stage_forward, stage_backward, stage_written, stage_read]
    refine key.trans ?_
    exact (congrArg (fun j : S16x4x64.Idx => (rowOf m c (j 0)).read (j 1) (j 2)) hE).symm

end Cert.KernelIdeal.Own

end
-- ==== Proof.RefUsage.lean ====
/- The reference's interface vector and new usage, read at an index: each is the value of the same name in the
   mathematics of the memory step. -/
module

public import Idealize.ShloMosaic.Lib.Pointwise
public import proofs.«01_k».proof.Proof.Spec
public import proofs.«01_k».proof.Proof.Gen.ReferenceIdeal.Read

@[expose] public section

set_option maxRecDepth 16384

noncomputable section

namespace Cert.ReferenceIdeal.Own

open Cert.ReferenceIdeal Cert.ReferenceIdeal.Gen Cert.ReferenceIdeal.Read Idealize.ShloMosaic Cert.Dnc

variable (x0 : (⟨S16x2048, .f32⟩ : BufTy).Contents (Elt Ideal)) (x1 : (⟨S16x1024x64, .f32⟩ : BufTy).Contents (Elt Ideal))
  (x2 : (⟨S16x4x1024, .f32⟩ : BufTy).Contents (Elt Ideal)) (x3 x4 x5 : (⟨S16x1024, .f32⟩ : BufTy).Contents (Elt Ideal))
  (x6 : (⟨S16x1024x1024, .f32⟩ : BufTy).Contents (Elt Ideal)) (x7 : (⟨S471x2048, .f32⟩ : BufTy).Contents (Elt Ideal))
  (x8 : (⟨S471, .f32⟩ : BufTy).Contents (Elt Ideal))

/-- The inputs of batch row `b`, read off the arguments. -/
def row (b : Fin 16) : Row where
  x q := x0 (ix2 b q)
  wif p q := x7 (ix2 p q)
  bias q := x8 (ix1 q)
  mem n w := x1 (ix3 b n w)
  rw r n := x2 (ix3 b r n)
  wt n := x3 (ix2 b n)
  us n := x4 (ix2 b n)
  pr n := x5 (ix2 b n)
  lm i j := x6 (ix3 b i j)

/-- The interface vector. -/
theorem iv_at (b : Fin 16) (q : Fin 471) :
    val_main_v4 (F := Ideal) x0 x7 x8 (ix2 b q) = (row x0 x1 x2 x3 x4 x5 x6 x7 x8 b).iv q := by
  pointwise [val_main_v0, val_main_v1, val_main_v2, val_main_v3, val_main_v4]
  rfl

/-- The logistic function as the reference writes it. -/
theorem sig_neg (z : EReal) : Ideal.div 1 (1 + Ideal.exp (-z)) = Dnc.sig z := by
  unfold Dnc.sig
  rw [zero_sub]

/-- One plus the softplus as the reference writes it, its test for an undefined value never taken. -/
theorem softplus_eq (z : EReal) :
    (1 + if z ≠ z then z else max z 0 + Ideal.log1p (Ideal.exp (-FloatOps.absf (F := Ideal) (φ := .f32) z)))
      = oneplus z := by
  rw [if_neg (fun h => h rfl), ← add_assoc, ← zero_sub]
  rfl

/-- The largest value, compared once more with the least there is. -/
theorem max_peak {n : ℕ} (f : Fin n → EReal) :
    max (Ideal.ofBits FTy.f32 4286578688#32) (Finset.univ.fold max (Ideal.ofBits FTy.f32 4286578688#32) f) = peak f :=
  max_eq_right ((Finset.le_fold_max _).2 (Or.inl le_rfl))

/-- The new usage. -/
theorem usage_at (b : Fin 16) (j : Fin 1024) :
    val_main_v43 (F := Ideal) x0 x2 x3 x4 x7 x8 (ix2 b j) = (row x0 x1 x2 x3 x4 x5 x6 x7 x8 b).usage j := by
  pointwise [
    val_main_v17, val_main_v18, val_main_v19, val_main_cst, val_main_v20, val_main_v21, val_main_cst_0, val_main_v22,
    val_main_v23, val_main_v24, val_main_v25, val_main_v26, val_main_cst_1, val_main_v27, val_main_v28, val_main_v29,
    val_main_v30, val_main_v31, val_main_v32, val_main_v33, val_main_v34, val_main_v35, val_main_v36, val_main_v37,
    val_main_v38, val_main_v39, val_main_v40, val_main_v41, val_main_v42, val_main_v43]
  simp only [iv_at x0 x1 x2 x3 x4 x5 x6 x7 x8, sig_neg]
  rfl

end Cert.ReferenceIdeal.Own

end
-- ==== Proof.SortRank.lean ====
/- A sorted row and its running product.

   The reference sorts a row of usages, keeping equal entries in their order, and takes the running product along the
   sorted row. Here: which positions the first entries of the sorted row come from, so that the running product up to an
   entry is the product `upTo` over the positions not after it; and the running product built by doubling, each step
   multiplying in as many entries again. -/
module

public import Idealize.ShloMosaic.Lib.SortFacts
public import proofs.«01_k».proof.Proof.Spec

@[expose] public section

noncomputable section

namespace Cert.Dnc

open Idealize.ShloMosaic

section order

variable {n : ℕ} (u : Fin n → EReal)

/-- Position `i` comes strictly before position `j` when the row is sorted and ties keep their order. -/
def Earlier (i j : Fin n) : Prop := u i < u j ∨ (u i = u j ∧ i < j)

theorem Earlier.trans {u : Fin n → EReal} {i j k : Fin n} (h : Earlier u i j) (h' : Earlier u j k) : Earlier u i k := by
  rcases h with h | ⟨h, l⟩ <;> rcases h' with h' | ⟨h', l'⟩
  · exact Or.inl (h.trans h')
  · exact Or.inl (h' ▸ h)
  · exact Or.inl (h ▸ h')
  · exact Or.inr ⟨h.trans h', l.trans l'⟩

theorem Earlier.irrefl (i : Fin n) : ¬ Earlier u i i := by
  rintro (h | ⟨_, h⟩)
  · exact lt_irrefl _ h
  · exact lt_irrefl _ h

/-- Whether the entry at `k` is smaller than the entry at `k'`: what the sort compares. -/
def smaller (k k' : Fin n) : Bool := decide (u k < u k')

/-- Inserting a position that is before all of an ordered list's positions leaves the list ordered. -/
theorem ordered_insert (a : Fin n) : ∀ l : List (Fin n), l.Pairwise (Earlier u) → (∀ x ∈ l, a < x) →
    (insertBefore (smaller u) a l).Pairwise (Earlier u)
  | [], _, _ => List.pairwise_singleton _ _
  | b :: l, hl, ha => by
    have hb := List.pairwise_cons.mp hl
    unfold insertBefore
    split
    · rename_i h
      refine List.pairwise_cons.mpr ⟨fun x hx => ?_, ordered_insert a l hb.2 fun x hx => ha x (List.mem_cons_of_mem _ hx)⟩
      rcases List.mem_cons.mp ((perm_insertBefore (smaller u) a l).mem_iff.mp hx) with rfl | hx
      · exact Or.inl (of_decide_eq_true h)
      · exact hb.1 x hx
    · rename_i h
      have hab : Earlier u a b := by
        have h' : ¬ u b < u a := fun q => h (decide_eq_true q)
        rcases lt_or_eq_of_le (not_lt.mp h') with q | q
        · exact Or.inl q
        · exact Or.inr ⟨q, ha b List.mem_cons_self⟩
      refine List.pairwise_cons.mpr ⟨fun x hx => ?_, hl⟩
      rcases List.mem_cons.mp hx with rfl | hx
      · exact hab
      · exact hab.trans (hb.1 x hx)

/-- The sorted positions of an increasing list are in order, ties as they stood. -/
theorem ordered_sort : ∀ l : List (Fin n), l.Pairwise (· < ·) → (stableSort (smaller u) l).Pairwise (Earlier u)
  | [], _ => List.Pairwise.nil
  | a :: l, h => by
    have h' := List.pairwise_cons.mp h
    unfold stableSort
    exact ordered_insert u a _ (ordered_sort l h'.2) fun x hx => h'.1 x ((perm_stableSort _ l).mem_iff.mp hx)

/-- The position the sorted row's entry `k` comes from. -/
def place (k : Fin n) : Fin n := sortedFrom (smaller u) k

theorem place_bijective : Function.Bijective (place u) :=
  ⟨sortedFrom_injective _, sortedFrom_surjective _⟩

theorem place_earlier {i j : Fin n} (h : i < j) : Earlier u (place u i) (place u j) := by
  have hp := List.pairwise_iff_get.mp (ordered_sort u (List.finRange n) (List.pairwise_lt_finRange n))
  exact hp (i.cast (length_sortPositions n _).symm) (j.cast (length_sortPositions n _).symm) h

/-- A sorted entry is not after entry `k` exactly when its position is not after `k`'s. -/
theorem place_le_iff (i k : Fin n) :
    (u (place u i) < u (place u k) ∨ (u (place u i) = u (place u k) ∧ place u i ≤ place u k)) ↔ i ≤ k := by
  constructor
  · intro h
    by_contra hk
    have e := place_earlier u (not_le.mp hk)
    rcases h with h | ⟨h, l⟩
    · exact Earlier.irrefl u _ (e.trans (Or.inl h))
    · rcases lt_or_eq_of_le l with l | l
      · exact Earlier.irrefl u _ (e.trans (Or.inr ⟨h, l⟩))
      · rw [l] at e
        exact Earlier.irrefl u _ e
  · intro h
    rcases lt_or_eq_of_le h with h | rfl
    · rcases place_earlier u h with h | ⟨h, l⟩
      · exact Or.inl h
      · exact Or.inr ⟨h, l.le⟩
    · exact Or.inr ⟨rfl, le_rfl⟩

/-- The product of the sorted row up to entry `k` is the product over the positions not after `k`'s. -/
theorem prefix_prod (k : Fin n) : ∏ i ∈ Finset.univ.filter (fun i => i ≤ k), u (place u i)
    = ∏ i ∈ Finset.univ.filter (fun i => u i < u (place u k) ∨ (u i = u (place u k) ∧ i ≤ place u k)), u i := by
  rw [Finset.prod_filter, Finset.prod_filter]
  refine Eq.trans ?_ ((Equiv.ofBijective _ (place_bijective u)).prod_comp _)
  refine Finset.prod_congr rfl fun i _ => ?_
  simp only [Equiv.ofBijective_apply, place_le_iff]

theorem prefix_eq_upTo (v : Fin 1024 → EReal) (k : Fin 1024) :
    ∏ i ∈ Finset.univ.filter (fun i => i ≤ k), v (place v i) = upTo v (place v k) := prefix_prod v k

end order

/-! ## A running product by doubling -/

section doubling

variable {n : ℕ} (f : Fin n → EReal)

/-- The product of the last `D` entries up to `i`, or of all of them where there are fewer. -/
def recent (D : ℕ) (i : Fin n) : EReal := ∏ m ∈ Finset.univ.filter (fun m => m ≤ i ∧ i.val < m.val + D), f m

theorem recent_one (i : Fin n) : recent f 1 i = f i := by
  unfold recent
  rw [show Finset.univ.filter (fun m : Fin n => m ≤ i ∧ i.val < m.val + 1) = {i} from ?_, Finset.prod_singleton]
  ext m
  simp only [Finset.mem_filter, Finset.mem_univ, true_and, Finset.mem_singleton, Fin.le_def, Fin.ext_iff]
  omega

/-- The last `2 D` entries: the last `D`, and the `D` before those where there are any. -/
theorem recent_double (D : ℕ) (i : Fin n) :
    recent f (2 * D) i = recent f D i * (if h : D ≤ i.val then recent f D ⟨i.val - D, by omega⟩ else 1) := by
  unfold recent
  split
  · rename_i h
    rw [← Finset.prod_union]
    · refine Finset.prod_congr ?_ fun _ _ => rfl
      ext m
      simp only [Finset.mem_union, Finset.mem_filter, Finset.mem_univ, true_and, Fin.le_def]
      omega
    · rw [Finset.disjoint_left]
      intro m
      simp only [Finset.mem_filter, Finset.mem_univ, true_and, Fin.le_def]
      omega
  · rename_i h
    rw [mul_one]
    refine Finset.prod_congr ?_ fun _ _ => rfl
    ext m
    simp only [Finset.mem_filter, Finset.mem_univ, true_and, Fin.le_def]
    omega

/-- A step of the doubling: the last `D` entries up to `i`, times the last `D` up to `D` before `i` where there are any. -/
theorem recent_step (D : ℕ) (i : Fin n) :
    recent f D i * (if h : i.val < D then 1 else recent f D ⟨i.val - D, by omega⟩) = recent f (2 * D) i := by
  rw [recent_double]
  by_cases h : i.val < D
  · rw [dif_pos h, dif_neg (not_le.mpr h)]
  · rw [dif_neg h, dif_pos (not_lt.mp h)]

/-- The last `n` entries are all of them. -/
theorem recent_all (i : Fin n) : recent f n i = ∏ m ∈ Finset.univ.filter (fun m => m ≤ i), f m := by
  unfold recent
  refine Finset.prod_congr ?_ fun _ _ => rfl
  ext m
  have := i.isLt
  simp only [Finset.mem_filter, Finset.mem_univ, true_and, Fin.le_def]
  omega

end doubling

end Cert.Dnc

end
-- ==== Proof.RefAlloc.lean ====
/- The reference's allocation weighting, read at an index. The reference sorts a row's usages, reads them in sorted order,
   takes their running product by doubling, and scatters the result back to the positions the sorted entries came from. -/
module

public import Idealize.ShloMosaic.Lib.Pointwise
public import Idealize.ShloMosaic.Lib.Routing.OpsPair
public import Idealize.ShloMosaic.Lib.Routing.OpsSet
public import Idealize.ShloMosaic.Lib.ReduceAll
public import proofs.«01_k».proof.Proof.RefUsage
public import proofs.«01_k».proof.Proof.SortRank

@[expose] public section

set_option maxRecDepth 16384

noncomputable section

namespace Cert.ReferenceIdeal.Own

open Cert.ReferenceIdeal Cert.ReferenceIdeal.Gen Cert.ReferenceIdeal.Read Idealize.ShloMosaic Cert.Dnc

variable (x0 : (⟨S16x2048, .f32⟩ : BufTy).Contents (Elt Ideal)) (x1 : (⟨S16x1024x64, .f32⟩ : BufTy).Contents (Elt Ideal))
  (x2 : (⟨S16x4x1024, .f32⟩ : BufTy).Contents (Elt Ideal)) (x3 x4 x5 : (⟨S16x1024, .f32⟩ : BufTy).Contents (Elt Ideal))
  (x6 : (⟨S16x1024x1024, .f32⟩ : BufTy).Contents (Elt Ideal)) (x7 : (⟨S471x2048, .f32⟩ : BufTy).Contents (Elt Ideal))
  (x8 : (⟨S471, .f32⟩ : BufTy).Contents (Elt Ideal))

/-! ## The sorted row -/

/-- What the sort compares: whether the first of two usages is smaller. -/
theorem comparator_eq (l r : Ideal .f32 × BitVec 32) :
    (comparator_f32_i32_d1 (F := Ideal) l r == 1#1) = decide (l.1 < r.1) := by
  have cz : ∀ z : Ideal .f32, Scalar.select (FloatOps.cmpf .une z z) (FloatOps.ofBits .f32 0x7FC00000#32)
      (Scalar.select (FloatOps.cmpf .oeq z (FloatOps.ofBits .f32 0x00000000#32)) (FloatOps.ofBits .f32 0x00000000#32) z)
      = z := by
    intro z
    have h1 : FloatOps.cmpf .une z z = 0#1 := by
      show BitVec.ofBool (decide (z ≠ z)) = 0#1
      rw [decide_eq_false (fun h => h rfl)]; rfl
    have h2 : FloatOps.cmpf .oeq z (FloatOps.ofBits .f32 0x00000000#32)
        = BitVec.ofBool (decide (z = FloatOps.ofBits .f32 0x00000000#32)) := rfl
    rw [h1, h2]
    by_cases e : z = FloatOps.ofBits .f32 0x00000000#32
    · rw [decide_eq_true e]
      exact e.symm
    · rw [decide_eq_false e]
      rfl
  have e : comparator_f32_i32_d1 (F := Ideal) l r = BitVec.ofBool (decide (l.1 < r.1)) := by
    unfold comparator_f32_i32_d1
    dsimp only
    rw [cz, cz]
    rfl
  rw [e]
  cases decide (l.1 < r.1) <;> rfl

/-- An index of a matrix moved along its row. -/
theorem along_row {n p : ℕ} (b : Fin n) (k k' : Fin p) : (ix2 b k).along (1 : Fin 2) k' = ix2 b k' := by
  funext a
  unfold Shape.Idx.along
  match a with
  | ⟨0, _⟩ => rfl
  | ⟨1, _⟩ => rfl

/-- What a sort of the rows of a matrix carries along, read at an entry. -/
theorem sort_row {n p : ℕ} {α β : Type} (cmp : α × β → α × β → BitVec 1) (x : (⟨2, ![n, p]⟩ : Shape).Idx → α)
    (y : (⟨2, ![n, p]⟩ : Shape).Idx → β) (b : Fin n) (k : Fin p) :
    (Host.sort2 (⟨2, ![n, p]⟩ : Shape) 1 cmp x y).2 (ix2 b k)
      = y (ix2 b (sortedFrom (fun k' k'' : Fin p =>
          cmp (x (ix2 b k'), y (ix2 b k')) (x (ix2 b k''), y (ix2 b k'')) == 1#1) k)) := by
  have e : (fun k' k'' : Fin p => cmp (x ((ix2 b k).along (1 : Fin 2) k'), y ((ix2 b k).along (1 : Fin 2) k'))
      (x ((ix2 b k).along (1 : Fin 2) k''), y ((ix2 b k).along (1 : Fin 2) k'')) == 1#1)
      = fun k' k'' : Fin p => cmp (x (ix2 b k'), y (ix2 b k')) (x (ix2 b k''), y (ix2 b k'')) == 1#1 := by
    funext k' k''
    rw [along_row, along_row]
  unfold Host.sort2
  rw [dif_pos (show 1 < (⟨2, ![n, p]⟩ : Shape).rank from Nat.one_lt_two)]
  refine Eq.trans ?_ (congrArg y (along_row b k _))
  exact congrArg (fun f : Fin p → Fin p → Bool => y ((ix2 b k).along (1 : Fin 2) (sortedFrom f k))) e

/-- The sorted positions: entry `k` of row `b` is the position its sorted entry comes from. -/
theorem position_at (b : Fin 16) (k : Fin 1024) :
    val_main_v44 (F := Ideal) x0 x2 x3 x4 x7 x8 (ix2 b k)
      = BitVec.ofNat 32 (place (row x0 x1 x2 x3 x4 x5 x6 x7 x8 b).usage k).val := by
  have hb : (fun k' k'' : Fin 1024 => comparator_f32_i32_d1 (F := Ideal)
        (val_main_v43 (F := Ideal) x0 x2 x3 x4 x7 x8 (ix2 b k'), iotaInDim S16x1024 32 1 (ix2 b k'))
        (val_main_v43 (F := Ideal) x0 x2 x3 x4 x7 x8 (ix2 b k''), iotaInDim S16x1024 32 1 (ix2 b k''))
        == 1#1) = smaller (row x0 x1 x2 x3 x4 x5 x6 x7 x8 b).usage := by
    funext k' k''
    rw [comparator_eq, usage_at x0 x1 x2 x3 x4 x5 x6 x7 x8, usage_at x0 x1 x2 x3 x4 x5 x6 x7 x8]
    rfl
  unfold val_main_v44 val_main_call0_v0
  refine (sort_row _ _ _ b k).trans ?_
  rw [hb]
  rfl

/-- A position read as a signed word. -/
theorem toInt_small (k : Fin 1024) : (BitVec.ofNat 32 k.val).toInt = k.val :=
  StableHlo.Predicate.toInt_ofNat_small _ (by omega)

/-- A position, after the wrap of a negative one. -/
theorem wrap_small (k : Fin 1024) (a : BitVec 32) :
    Scalar.select (IntOp.cmpi .slt (BitVec.ofNat 32 k.val) 0#32) a (BitVec.ofNat 32 k.val) = BitVec.ofNat 32 k.val :=
  Routing.wrap_of_lt _ _ (by rw [BitVec.toNat_ofNat]; omega)

/-- The positions the sorted read takes. -/
theorem taken_at (b : Fin 16) (k : Fin 1024) (z : Fin 1) :
    val_main_call1_v5 (F := Ideal) x0 x2 x3 x4 x7 x8 (ix3 b k z)
      = BitVec.ofNat 32 (place (row x0 x1 x2 x3 x4 x5 x6 x7 x8 b).usage k).val := by
  pointwise [
    val_main_call1_c, val_main_call1_v0, val_main_call1_v1, val_main_call1_c_0, val_main_call1_v2, val_main_call1_v3,
    val_main_call1_v4, val_main_call1_v5]
  simp only [position_at x0 x1 x2 x3 x4 x5 x6 x7 x8]
  exact wrap_small _ _

/-- A position is at least zero and at most the last. -/
theorem inside_small (k : Fin 1024) : IntOp.andi (IntOp.cmpi .sge (BitVec.ofNat 32 k.val) 0#32)
    (IntOp.cmpi .sle (BitVec.ofNat 32 k.val) 1023#32) = 1#1 := by
  have h := toInt_small k
  have h1 : IntOp.cmpi .sge (BitVec.ofNat 32 k.val) 0#32 = 1#1 := by
    show BitVec.ofBool (BitVec.sle 0#32 (BitVec.ofNat 32 k.val)) = 1#1
    rw [BitVec.sle_eq_decide, h, decide_eq_true (by simp)]; rfl
  have h2 : IntOp.cmpi .sle (BitVec.ofNat 32 k.val) 1023#32 = 1#1 := by
    show BitVec.ofBool (BitVec.sle (BitVec.ofNat 32 k.val) 1023#32) = 1#1
    rw [BitVec.sle_eq_decide, h, decide_eq_true (by have := k.isLt; simp; omega)]; rfl
  rw [h1, h2]
  rfl

/-- Every position taken is inside the row. -/
theorem inside_at (j : S16x1024.Idx) : val_main_call1_v12 (F := Ideal) x0 x2 x3 x4 x7 x8 j = 1#1 := by
  unfold val_main_call1_v12
  refine Host.reduce_andi_one _ _ _ _ _ rfl fun i => ?_
  obtain ⟨b, k, z, rfl⟩ : ∃ b k z, i = ix3 (n0 := 16) (n1 := 1024) (n2 := 1) b k z := ⟨_, _, _, (ix3_eta i).symm⟩
  pointwise [
    val_main_call1_c_1, val_main_call1_c_2, val_main_call1_v6, val_main_call1_v7, val_main_call1_v8,
    val_main_call1_v9, val_main_call1_v10, val_main_call1_v11]
  rw [taken_at x0 (fun _ => 0) x2 x3 x4 (fun _ => 0) (fun _ => 0) x7 x8]
  exact inside_small _

/-- The read at a position of each row. -/
theorem gather_at (x : S16x1024.Idx → EReal) (idx : IVec S16x1024x1 32) (b : Fin 16) (k p : Fin 1024)
    (h : idx (ix3 b k 0) = BitVec.ofNat 32 p.val) :
    Host.gather gather_S16x1024_S16x1024x1_S16x1024_n_1_0_0_1_2_11 x idx (ix2 b k) = x (ix2 b p) := by
  unfold Host.gather
  refine congrArg x (funext fun a => Fin.ext ?_)
  match a with
  | ⟨0, _⟩ =>
    show 0 + gather_S16x1024_S16x1024x1_S16x1024_n_1_0_0_1_2_11.batchCoord (ix2 b k) 0 + 0 = b.val
    unfold GatherDims.batchCoord
    rw [dif_pos (by decide), Nat.zero_add, Nat.add_zero]
    unfold GatherDims.siCoord
    rfl
  | ⟨1, _⟩ =>
    show min (idx _).toInt.toNat 1023 + 0 + 0 = p.val
    have e : idx (gather_S16x1024_S16x1024x1_S16x1024_n_1_0_0_1_2_11.siIdx (ix2 b k) ⟨0, by decide⟩) = BitVec.ofNat 32 p.val := by
      rw [← h]
      refine congrArg idx (funext fun c => Fin.ext ?_)
      match c with
      | ⟨0, _⟩ => rfl
      | ⟨1, _⟩ => rfl
      | ⟨2, _⟩ => rfl
    refine (congrArg (fun v : BitVec 32 => min v.toInt.toNat 1023 + 0 + 0) e).trans ?_
    show min (BitVec.ofNat 32 p.val).toInt.toNat 1023 + 0 + 0 = p.val
    rw [toInt_small]
    have := p.isLt
    omega

/-- The sorted row. -/
theorem sorted_at (b : Fin 16) (k : Fin 1024) :
    val_main_v45 (F := Ideal) x0 x2 x3 x4 x7 x8 (ix2 b k)
      = (row x0 x1 x2 x3 x4 x5 x6 x7 x8 b).usage (place (row x0 x1 x2 x3 x4 x5 x6 x7 x8 b).usage k) := by
  have e : val_main_v45 (F := Ideal) x0 x2 x3 x4 x7 x8 (ix2 b k)
      = Scalar.select (val_main_call1_v12 (F := Ideal) x0 x2 x3 x4 x7 x8 (ix2 b k))
          (val_main_call1_v13 (F := Ideal) x0 x2 x3 x4 x7 x8 (ix2 b k)) (val_main_call1_v14 (F := Ideal) (ix2 b k)) := rfl
  rw [e, inside_at x0 x2 x3 x4 x7 x8]
  show val_main_call1_v13 (F := Ideal) x0 x2 x3 x4 x7 x8 (ix2 b k) = _
  refine (gather_at _ _ b k _ (taken_at x0 x1 x2 x3 x4 x5 x6 x7 x8 b k 0)).trans ?_
  exact usage_at x0 x1 x2 x3 x4 x5 x6 x7 x8 b _

/-! ## The running product -/

/-- The first step of the doubling: the sorted row itself. -/
theorem double1_at (b : Fin 16) (i : Fin 1024) :
    val_main_v45 (F := Ideal) x0 x2 x3 x4 x7 x8 (ix2 b i) = recent (fun k => (row x0 x1 x2 x3 x4 x5 x6 x7 x8 b).usage (place (row x0 x1 x2 x3 x4 x5 x6 x7 x8 b).usage k)) 1 i := by
  rw [sorted_at x0 x1 x2 x3 x4 x5 x6 x7 x8, recent_one]

/-- The product of the last 2 entries. -/
theorem double2_at (b : Fin 16) (i : Fin 1024) :
    val_main_v51 (F := Ideal) x0 x2 x3 x4 x7 x8 (ix2 b i)
      = recent (fun k => (row x0 x1 x2 x3 x4 x5 x6 x7 x8 b).usage (place (row x0 x1 x2 x3 x4 x5 x6 x7 x8 b).usage k)) 2 i := by
  pointwise [val_main_cst_3, val_main_v48, val_main_v49, val_main_v50, val_main_v51]
  simp only [double1_at x0 x1 x2 x3 x4 x5 x6 x7 x8]
  exact recent_step _ 1 i

/-- The product of the last 4 entries. -/
theorem double4_at (b : Fin 16) (i : Fin 1024) :
    val_main_v55 (F := Ideal) x0 x2 x3 x4 x7 x8 (ix2 b i)
      = recent (fun k => (row x0 x1 x2 x3 x4 x5 x6 x7 x8 b).usage (place (row x0 x1 x2 x3 x4 x5 x6 x7 x8 b).usage k)) 4 i := by
  pointwise [val_main_cst_4, val_main_v52, val_main_v53, val_main_v54, val_main_v55]
  simp only [double2_at x0 x1 x2 x3 x4 x5 x6 x7 x8]
  exact recent_step _ 2 i

/-- The product of the last 8 entries. -/
theorem double8_at (b : Fin 16) (i : Fin 1024) :
    val_main_v59 (F := Ideal) x0 x2 x3 x4 x7 x8 (ix2 b i)
      = recent (fun k => (row x0 x1 x2 x3 x4 x5 x6 x7 x8 b).usage (place (row x0 x1 x2 x3 x4 x5 x6 x7 x8 b).usage k)) 8 i := by
  pointwise [val_main_cst_5, val_main_v56, val_main_v57, val_main_v58, val_main_v59]
  simp only [double4_at x0 x1 x2 x3 x4 x5 x6 x7 x8]
  exact recent_step _ 4 i

/-- The product of the last 16 entries. -/
theorem double16_at (b : Fin 16) (i : Fin 1024) :
    val_main_v63 (F := Ideal) x0 x2 x3 x4 x7 x8 (ix2 b i)
      = recent (fun k => (row x0 x1 x2 x3 x4 x5 x6 x7 x8 b).usage (place (row x0 x1 x2 x3 x4 x5 x6 x7 x8 b).usage k)) 16 i := by
  pointwise [val_main_cst_6, val_main_v60, val_main_v61, val_main_v62, val_main_v63]
  simp only [double8_at x0 x1 x2 x3 x4 x5 x6 x7 x8]
  exact recent_step _ 8 i

/-- The product of the last 32 entries. -/
theorem double32_at (b : Fin 16) (i : Fin 1024) :
    val_main_v67 (F := Ideal) x0 x2 x3 x4 x7 x8 (ix2 b i)
      = recent (fun k => (row x0 x1 x2 x3 x4 x5 x6 x7 x8 b).usage (place (row x0 x1 x2 x3 x4 x5 x6 x7 x8 b).usage k)) 32 i := by
  pointwise [val_main_cst_7, val_main_v64, val_main_v65, val_main_v66, val_main_v67]
  simp only [double16_at x0 x1 x2 x3 x4 x5 x6 x7 x8]
  exact recent_step _ 16 i

/-- The product of the last 64 entries. -/
theorem double64_at (b : Fin 16) (i : Fin 1024) :
    val_main_v71 (F := Ideal) x0 x2 x3 x4 x7 x8 (ix2 b i)
      = recent (fun k => (row x0 x1 x2 x3 x4 x5 x6 x7 x8 b).usage (place (row x0 x1 x2 x3 x4 x5 x6 x7 x8 b).usage k)) 64 i := by
  pointwise [val_main_cst_8, val_main_v68, val_main_v69, val_main_v70, val_main_v71]
  simp only [double32_at x0 x1 x2 x3 x4 x5 x6 x7 x8]
  exact recent_step _ 32 i

/-- The product of the last 128 entries. -/
theorem double128_at (b : Fin 16) (i : Fin 1024) :
    val_main_v75 (F := Ideal) x0 x2 x3 x4 x7 x8 (ix2 b i)
      = recent (fun k => (row x0 x1 x2 x3 x4 x5 x6 x7 x8 b).usage (place (row x0 x1 x2 x3 x4 x5 x6 x7 x8 b).usage k)) 128 i := by
  pointwise [val_main_cst_9, val_main_v72, val_main_v73, val_main_v74, val_main_v75]
  simp only [double64_at x0 x1 x2 x3 x4 x5 x6 x7 x8]
  exact recent_step _ 64 i

/-- The product of the last 256 entries. -/
theorem double256_at (b : Fin 16) (i : Fin 1024) :
    val_main_v79 (F := Ideal) x0 x2 x3 x4 x7 x8 (ix2 b i)
      = recent (fun k => (row x0 x1 x2 x3 x4 x5 x6 x7 x8 b).usage (place (row x0 x1 x2 x3 x4 x5 x6 x7 x8 b).usage k)) 256 i := by
  pointwise [val_main_cst_10, val_main_v76, val_main_v77, val_main_v78, val_main_v79]
  simp only [double128_at x0 x1 x2 x3 x4 x5 x6 x7 x8]
  exact recent_step _ 128 i

/-- The product of the last 512 entries. -/
theorem double512_at (b : Fin 16) (i : Fin 1024) :
    val_main_v83 (F := Ideal) x0 x2 x3 x4 x7 x8 (ix2 b i)
      = recent (fun k => (row x0 x1 x2 x3 x4 x5 x6 x7 x8 b).usage (place (row x0 x1 x2 x3 x4 x5 x6 x7 x8 b).usage k)) 512 i := by
  pointwise [val_main_cst_11, val_main_v80, val_main_v81, val_main_v82, val_main_v83]
  simp only [double256_at x0 x1 x2 x3 x4 x5 x6 x7 x8]
  exact recent_step _ 256 i

/-- The product of the last 1024 entries. -/
theorem double1024_at (b : Fin 16) (i : Fin 1024) :
    val_main_v87 (F := Ideal) x0 x2 x3 x4 x7 x8 (ix2 b i)
      = recent (fun k => (row x0 x1 x2 x3 x4 x5 x6 x7 x8 b).usage (place (row x0 x1 x2 x3 x4 x5 x6 x7 x8 b).usage k)) 1024 i := by
  pointwise [val_main_cst_12, val_main_v84, val_main_v85, val_main_v86, val_main_v87]
  simp only [double512_at x0 x1 x2 x3 x4 x5 x6 x7 x8]
  exact recent_step _ 512 i

/-- What is scattered: one less the sorted entry, times the product up to it. -/
theorem sortedAlloc_at (b : Fin 16) (k : Fin 1024) :
    val_main_v88 (F := Ideal) x0 x2 x3 x4 x7 x8 (ix2 b k) = (row x0 x1 x2 x3 x4 x5 x6 x7 x8 b).alloc (place (row x0 x1 x2 x3 x4 x5 x6 x7 x8 b).usage k) := by
  pointwise [val_main_cst_2, val_main_v46, val_main_v47, val_main_v88]
  rw [sorted_at x0 x1 x2 x3 x4 x5 x6 x7 x8, double1024_at x0 x1 x2 x3 x4 x5 x6 x7 x8, recent_all, prefix_eq_upTo]
  rfl

/-! ## The scatter back -/

/-- Where an entry is scattered: its row. -/
theorem row_at (b : Fin 16) (k : Fin 1024) :
    val_main_v105 (F := Ideal) x0 x2 x3 x4 x7 x8 (ix3 b k 0) = BitVec.ofNat 32 b.val := by
  pointwise [
    val_main_v89, val_main_v90, val_main_c, val_main_v92, val_main_v93, val_main_c_14, val_main_v94, val_main_v95,
    val_main_v96, val_main_c_15, val_main_v97, val_main_v98, val_main_c_16, val_main_v99, val_main_v100,
    val_main_v101, val_main_v102, val_main_v103, val_main_v104, val_main_v105]
  exact wrap_small ⟨b.val, by omega⟩ _

/-- Where an entry is scattered: its position in the row. -/
theorem column_at (b : Fin 16) (k : Fin 1024) :
    val_main_v105 (F := Ideal) x0 x2 x3 x4 x7 x8 (ix3 b k 1) = BitVec.ofNat 32 (place (row x0 x1 x2 x3 x4 x5 x6 x7 x8 b).usage k).val := by
  pointwise [
    val_main_v89, val_main_v90, val_main_c, val_main_v92, val_main_v93, val_main_c_14, val_main_v94, val_main_v95,
    val_main_v96, val_main_c_15, val_main_v97, val_main_v98, val_main_c_16, val_main_v99, val_main_v100,
    val_main_v101, val_main_v102, val_main_v103, val_main_v104, val_main_v105]
  simp only [position_at x0 x1 x2 x3 x4 x5 x6 x7 x8]
  exact wrap_small _ _

/-- The allocation weighting. -/
theorem alloc_at (b : Fin 16) (j : Fin 1024) :
    val_main_v106 (F := Ideal) x0 x2 x3 x4 x7 x8 (ix2 b j) = (row x0 x1 x2 x3 x4 x5 x6 x7 x8 b).alloc j := by
  obtain ⟨k, rfl⟩ := (place_bijective (row x0 x1 x2 x3 x4 x5 x6 x7 x8 b).usage).2 j
  have lands : ∀ (a : Fin 16) (c : Fin 1024) (j : Fin 1024),
      (scatter_S16x1024_S16x1024x2_S16x1024_n_01_01_2.resultIdx? (ix2 a c)
        (val_main_v105 (F := Ideal) x0 x2 x3 x4 x7 x8) = some (ix2 b j)) ↔
        a = b ∧ place (row x0 x1 x2 x3 x4 x5 x6 x7 x8 a).usage c = j := by
    intro a c j
    refine (Routing.scatter_lands2 (R := 16) (C := 1024) (A := 16) (B := 1024)
      scatter_S16x1024_S16x1024x2_S16x1024_n_01_01_2 rfl rfl rfl _ a c b j).trans ?_
    show (val_main_v105 (F := Ideal) x0 x2 x3 x4 x7 x8 (ix3 a c 0)).toInt = b.val ∧
      (val_main_v105 (F := Ideal) x0 x2 x3 x4 x7 x8 (ix3 a c 1)).toInt = j.val ↔ _
    rw [row_at x0 x2 x3 x4 x7 x8, column_at x0 x1 x2 x3 x4 x5 x6 x7 x8, toInt_small, toInt_small ⟨a.val, by omega⟩]
    simp only [Fin.ext_iff, Int.natCast_inj]
  unfold val_main_v106
  refine Routing.scatter_set_hit _ _ _ _ _ _ (fun q hq => ?_) (ix2 b k) ((lands b k _).2 ⟨rfl, rfl⟩)
  obtain ⟨a, c, rfl⟩ : ∃ a c, q = ix2 a c := ⟨q 0, q 1, (ix2_eta q).symm⟩
  obtain ⟨rfl, e⟩ := (lands a c _).1 hq
  rw [sortedAlloc_at x0 x1 x2 x3 x4 x5 x6 x7 x8, e]

end Cert.ReferenceIdeal.Own

end
-- ==== Proof.RefContent.lean ====
/- The reference's content weighting of the write head, read at an index: the value of the same name in the mathematics
   of the memory step. -/
module

public import Idealize.ShloMosaic.Lib.Pointwise
public import proofs.«01_k».proof.Proof.RefUsage

@[expose] public section

set_option maxRecDepth 16384

noncomputable section

namespace Cert.ReferenceIdeal.Own

open Cert.ReferenceIdeal Cert.ReferenceIdeal.Gen Cert.ReferenceIdeal.Read Idealize.ShloMosaic Cert.Dnc

variable (x0 : (⟨S16x2048, .f32⟩ : BufTy).Contents (Elt Ideal)) (x1 : (⟨S16x1024x64, .f32⟩ : BufTy).Contents (Elt Ideal))
  (x2 : (⟨S16x4x1024, .f32⟩ : BufTy).Contents (Elt Ideal)) (x3 x4 x5 : (⟨S16x1024, .f32⟩ : BufTy).Contents (Elt Ideal))
  (x6 : (⟨S16x1024x1024, .f32⟩ : BufTy).Contents (Elt Ideal)) (x7 : (⟨S471x2048, .f32⟩ : BufTy).Contents (Elt Ideal))
  (x8 : (⟨S471, .f32⟩ : BufTy).Contents (Elt Ideal))

/-- The write head's strength. -/
theorem strength_at (b : Fin 16) :
    val_main_v123 (F := Ideal) x0 x7 x8 (ix2 b 0) = oneplus ((row x0 x1 x2 x3 x4 x5 x6 x7 x8 b).iv 324) := by
  pointwise [
    val_main_v10, val_main_call2_cst, val_main_call2_v0, val_main_call2_v1, val_main_call2_v2, val_main_call2_v3,
    val_main_call2_v4, val_main_call2_v5, val_main_call2_v6, val_main_call2_v7, val_main_call2_v8, val_main_call2_v9,
    val_main_call2_v10, val_main_call2_v11, val_main_v121, val_main_cst_20, val_main_v122, val_main_v123]
  simp only [iv_at x0 x1 x2 x3 x4 x5 x6 x7 x8]
  exact softplus_eq _

/-- The write head's cosines. -/
theorem cosine_at (b : Fin 16) (n : Fin 1024) :
    val_main_v120 (F := Ideal) x0 x1 x7 x8 (ix3 b 0 n)
      = cosine (fun w => (row x0 x1 x2 x3 x4 x5 x6 x7 x8 b).iv ⟨260 + w, by omega⟩) ((row x0 x1 x2 x3 x4 x5 x6 x7 x8 b).mem n) := by
  pointwise [
    val_main_v8, val_main_v9, val_main_v107, val_main_v108, val_main_cst_17, val_main_v109, val_main_v110,
    val_main_v111, val_main_cst_18, val_main_v112, val_main_v113, val_main_v114, val_main_v115, val_main_v116,
    val_main_v117, val_main_cst_19, val_main_v118, val_main_v119, val_main_v120]
  simp only [iv_at x0 x1 x2 x3 x4 x5 x6 x7 x8]
  rfl

/-- The write head's content weighting. -/
theorem content_at (b : Fin 16) (j : Fin 1024) :
    val_main_v138 (F := Ideal) x0 x1 x7 x8 (ix2 b j) = (row x0 x1 x2 x3 x4 x5 x6 x7 x8 b).content j := by
  pointwise [
    val_main_v124, val_main_v125, val_main_v126, val_main_cst_21, val_main_v127, val_main_cst_22, val_main_v128,
    val_main_v129, val_main_v130, val_main_v131, val_main_v132, val_main_v133, val_main_cst_23, val_main_v134,
    val_main_v135, val_main_v136, val_main_v137, val_main_v138]
  simp only [strength_at x0 x1 x2 x3 x4 x5 x6 x7 x8, cosine_at x0 x1 x2 x3 x4 x5 x6 x7 x8, max_peak]
  rfl

end Cert.ReferenceIdeal.Own

end
-- ==== Proof.RefValue.lean ====
/- The reference's results, read at an index: each is the value of the same name in the mathematics of the memory
   step. -/
module

public import Idealize.ShloMosaic.Lib.Pointwise
public import Idealize.ShloMosaic.Lib.WordCmp
public import proofs.«01_k».proof.Proof.RefAlloc
public import proofs.«01_k».proof.Proof.RefContent

@[expose] public section

set_option maxRecDepth 16384

noncomputable section

namespace Cert.ReferenceIdeal.Own

open Cert.ReferenceIdeal Cert.ReferenceIdeal.Gen Cert.ReferenceIdeal.Read Idealize.ShloMosaic Cert.Dnc

variable (x0 : (⟨S16x2048, .f32⟩ : BufTy).Contents (Elt Ideal)) (x1 : (⟨S16x1024x64, .f32⟩ : BufTy).Contents (Elt Ideal))
  (x2 : (⟨S16x4x1024, .f32⟩ : BufTy).Contents (Elt Ideal)) (x3 x4 x5 : (⟨S16x1024, .f32⟩ : BufTy).Contents (Elt Ideal))
  (x6 : (⟨S16x1024x1024, .f32⟩ : BufTy).Contents (Elt Ideal)) (x7 : (⟨S471x2048, .f32⟩ : BufTy).Contents (Elt Ideal))
  (x8 : (⟨S471, .f32⟩ : BufTy).Contents (Elt Ideal))

/-- The write weighting. -/
theorem write_at (b : Fin 16) (j : Fin 1024) :
    val_main_v159 (F := Ideal) x0 x1 x2 x3 x4 x7 x8 (ix2 b j) = (row x0 x1 x2 x3 x4 x5 x6 x7 x8 b).write j := by
  pointwise [
    val_main_v13, val_main_v14, val_main_v139, val_main_v140, val_main_cst_24, val_main_v141, val_main_v142,
    val_main_cst_25, val_main_v143, val_main_v144, val_main_v145, val_main_v146, val_main_cst_26, val_main_v147,
    val_main_v148, val_main_cst_27, val_main_v149, val_main_v150, val_main_v151, val_main_v152, val_main_cst_28,
    val_main_v153, val_main_v154, val_main_v155, val_main_v156, val_main_v157, val_main_v158, val_main_v159]
  simp only [iv_at x0 x1 x2 x3 x4 x5 x6 x7 x8, alloc_at x0 x1 x2 x3 x4 x5 x6 x7 x8, content_at x0 x1 x2 x3 x4 x5 x6 x7 x8, sig_neg]
  rfl

/-- The memory after the write. -/
theorem written_at (b : Fin 16) (n : Fin 1024) (w : Fin 64) :
    val_main_v179 (F := Ideal) x0 x1 x2 x3 x4 x7 x8 (ix3 b n w) = (row x0 x1 x2 x3 x4 x5 x6 x7 x8 b).written n w := by
  pointwise [
    val_main_v11, val_main_v12, val_main_v160, val_main_v161, val_main_cst_29, val_main_v162, val_main_v163,
    val_main_cst_30, val_main_v164, val_main_v165, val_main_v166, val_main_v167, val_main_v168, val_main_v169,
    val_main_v170, val_main_cst_31, val_main_v171, val_main_v172, val_main_v173, val_main_v174, val_main_v175,
    val_main_v176, val_main_v177, val_main_v178, val_main_v179]
  simp only [iv_at x0 x1 x2 x3 x4 x5 x6 x7 x8, write_at x0 x1 x2 x3 x4 x5 x6 x7 x8, sig_neg]
  rfl

/-- The new precedence. -/
theorem precedence_at (b : Fin 16) (j : Fin 1024) :
    val_main_v211 (F := Ideal) x0 x1 x2 x3 x4 x5 x7 x8 (ix2 b j) = (row x0 x1 x2 x3 x4 x5 x6 x7 x8 b).precedence j := by
  pointwise [
    val_main_cst_35, val_main_v205, val_main_v206, val_main_cst_36, val_main_v207, val_main_v208, val_main_v209,
    val_main_v210, val_main_v211]
  simp only [write_at x0 x1 x2 x3 x4 x5 x6 x7 x8]
  rfl

/-- An entry of the unit matrix as the reference writes it. -/
theorem eye_eq (i j : Fin 1024) :
    FloatOps.uitofp (F := Ideal) FTy.f32
        (IntOp.cmpi CmpIPredicate.eq (IntOp.addi (BitVec.ofNat 32 i.val) 0#32) (BitVec.ofNat 32 j.val))
      = if i = j then 1 else 0 := by
  rw [show IntOp.addi (BitVec.ofNat 32 i.val) 0#32 = BitVec.ofNat 32 i.val from BitVec.add_zero _,
    WordCmp.cmpi_eq_ofNat (by omega) (by omega)]
  by_cases h : i = j
  · rw [if_pos h, decide_eq_true (congrArg Fin.val h)]
    exact EReal.coe_one ▸ congrArg Real.toEReal Nat.cast_one
  · rw [if_neg h, decide_eq_false fun q => h (Fin.ext q)]
    exact EReal.coe_zero ▸ congrArg Real.toEReal Nat.cast_zero

/-- One less one, over the extended reals. -/
theorem one_sub_one : (1 : EReal) - 1 = 0 := by
  rw [← EReal.coe_one, ← EReal.coe_sub, sub_self, EReal.coe_zero]

/-- The new link matrix. -/
theorem link_at (b : Fin 16) (i j : Fin 1024) :
    val_main_v204 (F := Ideal) x0 x1 x2 x3 x4 x5 x6 x7 x8 (ix3 b i j) = (row x0 x1 x2 x3 x4 x5 x6 x7 x8 b).link i j := by
  pointwise [
    val_main_v180, val_main_cst_32, val_main_v181, val_main_v182, val_main_v183, val_main_v184, val_main_v185,
    val_main_v186, val_main_v187, val_main_v188, val_main_v189, val_main_v190, val_main_v191, val_main_v192,
    val_main_v193, val_main_v194, val_main_v195, val_main_c_33, val_main_v196, val_main_v197, val_main_v198,
    val_main_v199, val_main_v200, val_main_cst_34, val_main_v201, val_main_v202, val_main_v203, val_main_v204]
  simp only [write_at x0 x1 x2 x3 x4 x5 x6 x7 x8]
  simp only [eye_eq]
  unfold Row.link
  by_cases hij : i = j
  · rw [if_pos hij, if_pos hij, one_sub_one, mul_zero]
  · rw [if_neg hij, if_neg hij, sub_zero, mul_one]
    rfl

/-- The forward weighting of a read head. -/
theorem forward_at (b : Fin 16) (r : Fin 4) (i : Fin 1024) :
    val_main_v244 (F := Ideal) x0 x1 x2 x3 x4 x5 x6 x7 x8 (ix3 b r i) = (row x0 x1 x2 x3 x4 x5 x6 x7 x8 b).forward r i := by
  pointwise [
    val_main_v244]
  simp only [link_at x0 x1 x2 x3 x4 x5 x6 x7 x8]
  rfl

/-- The backward weighting of a read head. -/
theorem backward_at (b : Fin 16) (r : Fin 4) (i : Fin 1024) :
    val_main_v245 (F := Ideal) x0 x1 x2 x3 x4 x5 x6 x7 x8 (ix3 b r i) = (row x0 x1 x2 x3 x4 x5 x6 x7 x8 b).backward r i := by
  pointwise [
    val_main_v245]
  simp only [link_at x0 x1 x2 x3 x4 x5 x6 x7 x8]
  rfl

/-- A read head's strength. -/
theorem strengths_at (b : Fin 16) (r : Fin 4) :
    val_main_v229 (F := Ideal) x0 x7 x8 (ix2 b r) = oneplus ((row x0 x1 x2 x3 x4 x5 x6 x7 x8 b).iv ⟨256 + r, by omega⟩) := by
  pointwise [
    val_main_v7, val_main_call3_cst, val_main_call3_v0, val_main_call3_v1, val_main_call3_v2, val_main_call3_v3,
    val_main_call3_v4, val_main_call3_v5, val_main_call3_v6, val_main_call3_v7, val_main_call3_v8, val_main_call3_v9,
    val_main_call3_v10, val_main_call3_v11, val_main_v227, val_main_cst_40, val_main_v228, val_main_v229]
  simp only [iv_at x0 x1 x2 x3 x4 x5 x6 x7 x8, softplus_eq]

/-- A read head's cosines. -/
theorem cosines_at (b : Fin 16) (r : Fin 4) (n : Fin 1024) :
    val_main_v226 (F := Ideal) x0 x1 x2 x3 x4 x7 x8 (ix3 b r n) = cosine (fun w => (row x0 x1 x2 x3 x4 x5 x6 x7 x8 b).iv ⟨64 * r + w, by omega⟩) ((row x0 x1 x2 x3 x4 x5 x6 x7 x8 b).written n) := by
  pointwise [
    val_main_v5, val_main_v6, val_main_v212, val_main_v213, val_main_cst_37, val_main_v214, val_main_v215,
    val_main_v216, val_main_cst_38, val_main_v217, val_main_v218, val_main_v219, val_main_v220, val_main_v221,
    val_main_v222, val_main_v223, val_main_cst_39, val_main_v224, val_main_v225, val_main_v226]
  simp only [iv_at x0 x1 x2 x3 x4 x5 x6 x7 x8, written_at x0 x1 x2 x3 x4 x5 x6 x7 x8]
  simp only [Nat.mul_comm r.val 64]
  rfl

/-- The content weighting of a read head. -/
theorem contents_at (b : Fin 16) (r : Fin 4) (n : Fin 1024) :
    val_main_v243 (F := Ideal) x0 x1 x2 x3 x4 x7 x8 (ix3 b r n) = (row x0 x1 x2 x3 x4 x5 x6 x7 x8 b).contents r n := by
  pointwise [
    val_main_v230, val_main_v231, val_main_v232, val_main_cst_41, val_main_v233, val_main_cst_42, val_main_v234,
    val_main_v235, val_main_v236, val_main_v237, val_main_v238, val_main_v239, val_main_cst_43, val_main_v240,
    val_main_v241, val_main_v242, val_main_v243]
  simp only [strengths_at x0 x1 x2 x3 x4 x5 x6 x7 x8, cosines_at x0 x1 x2 x3 x4 x5 x6 x7 x8, max_peak]
  rfl

/-- A read head's modes. -/
theorem mode_at (b : Fin 16) (r : Fin 4) (c : Fin 3) :
    val_main_v256 (F := Ideal) x0 x7 x8 (ix3 b r c) = (row x0 x1 x2 x3 x4 x5 x6 x7 x8 b).mode r c := by
  pointwise [
    val_main_v15, val_main_v16, val_main_cst_44, val_main_v246, val_main_cst_45, val_main_v247, val_main_v248,
    val_main_v249, val_main_v250, val_main_v251, val_main_v252, val_main_cst_46, val_main_v253, val_main_v254,
    val_main_v255, val_main_v256]
  simp only [iv_at x0 x1 x2 x3 x4 x5 x6 x7 x8, max_peak]
  simp only [Nat.mul_comm r.val 3, ← Nat.add_assoc]
  rfl

/-- A read head's weighting. -/
theorem reads_at (b : Fin 16) (r : Fin 4) (n : Fin 1024) :
    val_main_v267 (F := Ideal) x0 x1 x2 x3 x4 x5 x6 x7 x8 (ix3 b r n) = (row x0 x1 x2 x3 x4 x5 x6 x7 x8 b).reads r n := by
  pointwise [
    val_main_v257, val_main_v258, val_main_v259, val_main_v260, val_main_v261, val_main_v262, val_main_v263,
    val_main_v264, val_main_v265, val_main_v266, val_main_v267]
  simp only [mode_at x0 x1 x2 x3 x4 x5 x6 x7 x8, backward_at x0 x1 x2 x3 x4 x5 x6 x7 x8, contents_at x0 x1 x2 x3 x4 x5 x6 x7 x8, forward_at x0 x1 x2 x3 x4 x5 x6 x7 x8]
  rfl

/-- What a read head reads. -/
theorem read_at (b : Fin 16) (r : Fin 4) (w : Fin 64) :
    val_main_v268 (F := Ideal) x0 x1 x2 x3 x4 x5 x6 x7 x8 (ix3 b r w) = (row x0 x1 x2 x3 x4 x5 x6 x7 x8 b).read r w := by
  pointwise [
    val_main_v268]
  simp only [reads_at x0 x1 x2 x3 x4 x5 x6 x7 x8, written_at x0 x1 x2 x3 x4 x5 x6 x7 x8]
  rfl

/-- The write weighting, as a result. -/
theorem write_row_at (b : Fin 16) (z : Fin 1) (j : Fin 1024) :
    val_main_v269 (F := Ideal) x0 x1 x2 x3 x4 x7 x8 (ix3 b z j) = (row x0 x1 x2 x3 x4 x5 x6 x7 x8 b).write j := by
  pointwise [val_main_v269]
  exact write_at x0 x1 x2 x3 x4 x5 x6 x7 x8 b j

/-- The new usage, as a result. -/
theorem usage_row_at (b : Fin 16) (z : Fin 1) (j : Fin 1024) :
    val_main_v270 (F := Ideal) x0 x2 x3 x4 x7 x8 (ix3 b z j) = (row x0 x1 x2 x3 x4 x5 x6 x7 x8 b).usage j := by
  pointwise [val_main_v270]
  exact usage_at x0 x1 x2 x3 x4 x5 x6 x7 x8 b j

/-- The new precedence, as a result. -/
theorem precedence_row_at (b : Fin 16) (z : Fin 1) (j : Fin 1024) :
    val_main_v271 (F := Ideal) x0 x1 x2 x3 x4 x5 x7 x8 (ix3 b z j) = (row x0 x1 x2 x3 x4 x5 x6 x7 x8 b).precedence j := by
  pointwise [val_main_v271]
  exact precedence_at x0 x1 x2 x3 x4 x5 x6 x7 x8 b j

end Cert.ReferenceIdeal.Own

end
-- ==== Proof.Floor.lean ====
/- The precondition, read at an index: every value of the new usage is at least the floor below which the kernel's
   logarithm no longer sees it. -/
module

public import proofs.«01_k».proof.Proof.RefUsage
public import proofs.«01_k».proof.Pre_usage_above_floor

@[expose] public section

set_option maxRecDepth 16384

noncomputable section

namespace Cert.ReferenceIdeal.Own

open Idealize.ShloMosaic Cert.Dnc

/-- The side conditions of the precondition's operations: they are among the reference's. -/
instance floorFacts : Cert.Pre_usage_above_floor.Facts where
  transposes_S471x2048_S2048x471_1_0 := Gen.transposes_S471x2048_S2048x471_1_0
  bcast_S471_S1x471_1 := Gen.bcast_S471_S1x471_1
  bcast_S1x471_S16x471_0_1 := Gen.bcast_S1x471_S16x471_0_1
  slices_S16x471_S16x4_0_453 := Gen.slices_S16x471_S16x4_0_453
  bcast_S_S16x4 := Gen.bcast_S_S16x4
  bcast_S16x4_S16x4x1_0_1 := Gen.bcast_S16x4_S16x4x1_0_1
  bcast_S16x4x1_S16x4x1024_0_1_2 := Gen.bcast_S16x4x1_S16x4x1024_0_1_2
  bcast_S_S16x4x1024 := Gen.bcast_S_S16x4x1024
  slices_S16x4x1024_S16x1x1024_0_0_0 := Gen.slices_S16x4x1024_S16x1x1024_0_0_0
  shapeCasts_S16x1x1024_S16x1024 := Gen.shapeCasts_S16x1x1024_S16x1024
  slices_S16x4x1024_S16x1x1024_0_1_0 := Gen.slices_S16x4x1024_S16x1x1024_0_1_0
  slices_S16x4x1024_S16x1x1024_0_2_0 := Gen.slices_S16x4x1024_S16x1x1024_0_2_0
  slices_S16x4x1024_S16x1x1024_0_3_0 := Gen.slices_S16x4x1024_S16x1x1024_0_3_0
  bcast_S_S16x1024 := Gen.bcast_S_S16x1024
  dot_S16x2048_S2048x471_S16x471_1_0_0_1_n_n_wf := Gen.dot_S16x2048_S2048x471_S16x471_1_0_0_1_n_n_wf

variable (x0 : (⟨S16x2048, .f32⟩ : BufTy).Contents (Elt Ideal)) (x1 : (⟨S16x1024x64, .f32⟩ : BufTy).Contents (Elt Ideal))
  (x2 : (⟨S16x4x1024, .f32⟩ : BufTy).Contents (Elt Ideal)) (x3 x4 x5 : (⟨S16x1024, .f32⟩ : BufTy).Contents (Elt Ideal))
  (x6 : (⟨S16x1024x1024, .f32⟩ : BufTy).Contents (Elt Ideal)) (x7 : (⟨S471x2048, .f32⟩ : BufTy).Contents (Elt Ideal))
  (x8 : (⟨S471, .f32⟩ : BufTy).Contents (Elt Ideal))

/-- The precondition compares the reference's new usage with the floor. -/
theorem floor_cmp :
    Cert.Pre_usage_above_floor.fn (F := Ideal) x0 x1 x2 x3 x4 x5 x6 x7 x8
      = cmpf (F := Ideal) (φ := .f32) .oge (Read.val_main_v43 (F := Ideal) x0 x2 x3 x4 x7 x8)
          (broadcastInDim S16x1024 ![] Gen.bcast_S_S16x1024 (constant S_ .f32 0x0DA24260#32)) := rfl

/-- Under the precondition every value of the new usage is at least the floor. -/
theorem floor_le (h : Cert.Pre_usage_above_floor.fn (F := Ideal) x0 x1 x2 x3 x4 x5 x6 x7 x8 = fun _ => 1#1)
    (b : Fin 16) (j : Fin 1024) :
    Ideal.ofBits FTy.f32 228737632#32 ≤ (row x0 x1 x2 x3 x4 x5 x6 x7 x8 b).usage j := by
  have h' := congrFun (floor_cmp x0 x1 x2 x3 x4 x5 x6 x7 x8 ▸ h) (ix2 b j)
  rw [← usage_at x0 x1 x2 x3 x4 x5 x6 x7 x8 b j]
  by_contra hn
  have : Ideal.cmp .oge (Read.val_main_v43 (F := Ideal) x0 x2 x3 x4 x7 x8 (ix2 b j)) (Ideal.ofBits FTy.f32 228737632#32) = 0#1 := by
    simp [Ideal.cmp, hn]
  exact absurd (h'.symm.trans this) (by decide)

end Cert.ReferenceIdeal.Own

end
-- ==== Proof.Algebraic.lean ====
/- The value claim: from equal arguments, and with every value of the new usage at least the floor, the kernel and the
   reference end with the same seven results. Each side's result is, at every index, the same value of the batch row's
   mathematics; here the two are put side by side. -/
module

public import proofs.«01_k».proof.Defs
public import proofs.«01_k».proof.Proof.Arrays
public import proofs.«01_k».proof.Proof.RefValue
public import proofs.«01_k».proof.Proof.Floor
public import proofs.«01_k».proof.Proof.Gen.ReferenceIdeal.Run

@[expose] public section

set_option maxRecDepth 16384

noncomputable section

namespace Cert.Value

open Idealize.ShloMosaic Idealize.ShloMosaic.StableHlo Idealize.SL.Sem Cert.Dnc Cert.ReferenceIdeal Cert.ReferenceIdeal.Read Cert.ReferenceIdeal.Own

variable (V : Valuation Cert.ReferenceIdeal.τ Cert.ReferenceIdeal.sig (Elt Ideal))

/-- The inputs of batch row `b`, read off the reference's buffers. -/
def rowIn (b : Fin 16) : Row :=
  row (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) b

/-- What the read heads read. -/
theorem result_v268 (d : Fin 16 → Row) (hd : ∀ b, rowIn V b = d b) :
    val_main_v268 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      = fun y => (d (y 0)).read (y 1) (y 2) := by
  obtain rfl : rowIn V = d := funext hd
  funext y
  exact (congrArg _ (ix3_eta y).symm).trans <|
    read_at _ _ _ _ _ _ _ _ _ (y 0) (y 1) (y 2)

/-- The written memory. -/
theorem result_v179 (d : Fin 16 → Row) (hd : ∀ b, rowIn V b = d b) :
    val_main_v179 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))
      = fun y => (d (y 0)).written (y 1) (y 2) := by
  obtain rfl : rowIn V = d := funext hd
  funext y
  exact (congrArg _ (ix3_eta y).symm).trans <|
    written_at _ _ _ _ _ _ _ _ _ (y 0) (y 1) (y 2)

/-- The read weightings. -/
theorem result_v267 (d : Fin 16 → Row) (hd : ∀ b, rowIn V b = d b) :
    val_main_v267 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      = fun y => (d (y 0)).reads (y 1) (y 2) := by
  obtain rfl : rowIn V = d := funext hd
  funext y
  exact (congrArg _ (ix3_eta y).symm).trans <|
    reads_at _ _ _ _ _ _ _ _ _ (y 0) (y 1) (y 2)

/-- The write weighting. -/
theorem result_v269 (d : Fin 16 → Row) (hd : ∀ b, rowIn V b = d b) :
    val_main_v269 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8))
      = fun y => (d (y 0)).write (y 2) := by
  obtain rfl : rowIn V = d := funext hd
  funext y
  exact (congrArg _ (ix3_eta y).symm).trans <|
    write_row_at _ _ _ _ _ _ _ _ _ (y 0) (y 1) (y 2)

/-- The new usage. -/
theorem result_v270 (d : Fin 16 → Row) (hd : ∀ b, rowIn V b = d b) :
    val_main_v270 (F := Ideal) (V (Proc.devRef .tc main_arg0)) (V (Proc.devRef .tc main_arg2)) (V (Proc.devRef .tc main_arg3)) (V (Proc.devRef .tc main_arg4)) (V (Proc.devRef .tc main_arg7)) (V (Proc.devRef .tc main_arg8))
      = fun y => (d (y 0)).usage (y 2) := by
  obtain rfl : rowIn V = d := funext hd
  funext y
  exact (congrArg _ (ix3_eta y).symm).trans <|
    usage_row_at _ _ _ _ _ _ _ _ _ (y 0) (y 1) (y 2)

/-- The new precedence. -/
theorem result_v271 (d : Fin 16 → Row) (hd : ∀ b, rowIn V b = d b) :
    val_main_v271 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg7)) (V (Proc.devRef .tc main_arg8))
      = fun y => (d (y 0)).precedence (y 2) := by
  obtain rfl : rowIn V = d := funext hd
  funext y
  exact (congrArg _ (ix3_eta y).symm).trans <|
    precedence_row_at _ _ _ _ _ _ _ _ _ (y 0) (y 1) (y 2)

/-- The new link matrix. -/
theorem result_v204 (d : Fin 16 → Row) (hd : ∀ b, rowIn V b = d b) :
    val_main_v204 (F := Ideal) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))
      = fun y => (d (y 0)).link (y 1) (y 2) := by
  obtain rfl : rowIn V = d := funext hd
  funext y
  exact (congrArg _ (ix3_eta y).symm).trans <|
    link_at _ _ _ _ _ _ _ _ _ (y 0) (y 1) (y 2)

open Cert.KernelIdeal.Own in
/-- From equal arguments the two sides read the same batch row. -/
theorem row_eq (m : (ℓ : Loc Cert.KernelIdeal.nD Cert.KernelIdeal.τ Cert.KernelIdeal.sig) → Buf (Elt Ideal) ℓ)
    (c : Dev Cert.KernelIdeal.nD)
    (h0 : V (Proc.devRef .tc main_arg0) = m ((c.tc : Thread Cert.KernelIdeal.nD Cert.KernelIdeal.τ).loc Cert.KernelIdeal.main_arg0))
    (h1 : V (Proc.devRef .tc main_arg1) = m ((c.tc : Thread Cert.KernelIdeal.nD Cert.KernelIdeal.τ).loc Cert.KernelIdeal.main_arg1))
    (h2 : V (Proc.devRef .tc main_arg2) = m ((c.tc : Thread Cert.KernelIdeal.nD Cert.KernelIdeal.τ).loc Cert.KernelIdeal.main_arg2))
    (h3 : V (Proc.devRef .tc main_arg3) = m ((c.tc : Thread Cert.KernelIdeal.nD Cert.KernelIdeal.τ).loc Cert.KernelIdeal.main_arg3))
    (h4 : V (Proc.devRef .tc main_arg4) = m ((c.tc : Thread Cert.KernelIdeal.nD Cert.KernelIdeal.τ).loc Cert.KernelIdeal.main_arg4))
    (h5 : V (Proc.devRef .tc main_arg5) = m ((c.tc : Thread Cert.KernelIdeal.nD Cert.KernelIdeal.τ).loc Cert.KernelIdeal.main_arg5))
    (h6 : V (Proc.devRef .tc main_arg6) = m ((c.tc : Thread Cert.KernelIdeal.nD Cert.KernelIdeal.τ).loc Cert.KernelIdeal.main_arg6))
    (h7 : V (Proc.devRef .tc main_arg7) = m ((c.tc : Thread Cert.KernelIdeal.nD Cert.KernelIdeal.τ).loc Cert.KernelIdeal.main_arg7))
    (h8 : V (Proc.devRef .tc main_arg8) = m ((c.tc : Thread Cert.KernelIdeal.nD Cert.KernelIdeal.τ).loc Cert.KernelIdeal.main_arg8))
    (b : Fin 16) : rowIn V b = rowOf m c b := by
  unfold rowIn
  rw [h0, h1, h2, h3, h4, h5, h6, h7, h8]
  rfl

open Cert.KernelIdeal.Own in
theorem algebraic : Cert.algebraic_KernelIdeal_ReferenceIdeal_pre_usage_above_floor := by
  intro m g m' g' hpre hagree
  have hu : ∀ c b i, Ideal.ofBits FTy.f32 228737632#32 ≤ (rowOf m c b).usage i := fun c b i => floor_le _ _ _ _ _ _ _ _ _ (hpre c) b i
  have hr : ∀ c b, rowIn (launchContents m' c) b = rowOf m c b := fun c => by
    obtain ⟨h0, h1, h2, h3, h4, h5, h6, h7, h8⟩ := hagree c
    exact row_eq _ m c h0 h1 h2 h3 h4 h5 h6 h7 h8
  refine ⟨fun c y => (rowOf m c (y 0)).read (y 1) (y 2),
    fun c y => (rowOf m c (y 0)).written (y 1) (y 2),
    fun c y => (rowOf m c (y 0)).reads (y 1) (y 2),
    fun c y => (rowOf m c (y 0)).write (y 2),
    fun c y => (rowOf m c (y 0)).usage (y 2),
    fun c y => (rowOf m c (y 0)).precedence (y 2),
    fun c y => (rowOf m c (y 0)).link (y 1) (y 2), ?_, ?_⟩
  · refine (θ_run _ _ _).mono (fun r h c => ?_) (Cert.KernelIdeal.Value.run_blocks m g)
    obtain ⟨h0, h1, h2, h3, h4, h5, h6, hargs⟩ := h c
    exact ⟨h0.trans (array10 m c (hu c)), h1.trans (array11 m c (hu c)), h2.trans (array12 m c (hu c)), h3.trans (array13 m c (hu c)), h4.trans (array14 m c), h5.trans (array15 m c (hu c)), h6.trans (array16 m c (hu c)), hargs⟩
  · refine (θ_run _ _ _).mono (fun r h c => ?_) (Cert.ReferenceIdeal.Value.run (F := Ideal) m' g')
    obtain ⟨h0, h1, h2, h3, h4, h5, h6, hargs⟩ := h c
    exact ⟨h0.trans ((val_main_v268_eq (launchContents m' c)).trans (result_v268 _ _ (hr c))),
      h1.trans ((val_main_v179_eq (launchContents m' c)).trans (result_v179 _ _ (hr c))),
      h2.trans ((val_main_v267_eq (launchContents m' c)).trans (result_v267 _ _ (hr c))),
      h3.trans ((val_main_v269_eq (launchContents m' c)).trans (result_v269 _ _ (hr c))),
      h4.trans ((val_main_v270_eq (launchContents m' c)).trans (result_v270 _ _ (hr c))),
      h5.trans ((val_main_v271_eq (launchContents m' c)).trans (result_v271 _ _ (hr c))),
      h6.trans ((val_main_v204_eq (launchContents m' c)).trans (result_v204 _ _ (hr c))), hargs⟩

end Cert.Value

end
-- ==== Proof.lean ====
module

public import proofs.«01_k».proof.Proof.Gen.KernelIdeal.Value
public import proofs.«01_k».proof.Proof.Gen.ReferenceIdeal.Run
public import proofs.«01_k».proof.Proof.Gen.ReferenceIdeal.Read
public import proofs.«01_k».proof.Defs
public import proofs.«01_k».proof.Proof.Algebraic
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem

/-- The reference runs and leaves its arguments alone. -/
theorem frame_ri : Cert.quiescent_ReferenceIdeal := fun m g _ =>
  (θ_run Cert.ReferenceIdeal.defs _ _).mono
    (fun r h => ⟨fun c => (h c).2.2.2.2.2.2.2, sem_eq_zero_of_no_sems (by decide) r.2⟩)
    (Cert.ReferenceIdeal.Value.run (F := Ideal) m g)

theorem claim : Cert.Claim :=
  ⟨Cert.Kernel.Gen.facts, Cert.KernelIdeal.Gen.facts, Cert.ReferenceIdeal.Gen.facts, Cert.ReferenceIdeal.Own.floorFacts,
    fun m g _ => Cert.Kernel.Gen.frame m g,
    fun m g _ => Cert.KernelIdeal.Gen.frame m g,
    fun m g _ => Cert.KernelIdeal.Gen.frame m g,
    frame_ri, fun m g _ => frame_ri m g trivial,
    trivial, Cert.Value.algebraic⟩

end Cert.Proof

end
